-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S2x512x4096 : Shape := ⟨3, ![2, 512, 4096]⟩
abbrev S8x128 : Shape := ⟨2, ![8, 128]⟩
abbrev S2x8 : Shape := ⟨2, ![2, 8]⟩
abbrev S8 : Shape := ⟨1, ![8]⟩
abbrev S16 : Shape := ⟨1, ![16]⟩
abbrev S_ : Shape := ⟨0, ![]⟩
abbrev S512x512 : Shape := ⟨2, ![512, 512]⟩
abbrev S1x512x512 : Shape := ⟨3, ![1, 512, 512]⟩
abbrev S1x1 : Shape := ⟨2, ![1, 1]⟩
abbrev S1 : Shape := ⟨1, ![1]⟩
abbrev S1x1x1 : Shape := ⟨3, ![1, 1, 1]⟩
abbrev S1x128 : Shape := ⟨2, ![1, 128]⟩
abbrev S1x8x128 : Shape := ⟨3, ![1, 8, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S2x512x4096, .f32⟩
  | .local _ .vmem, ⟨3, _⟩ => ⟨S2x512x4096, .f32⟩
  | .local _ .vmem, ⟨4, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 17 98 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 16

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.subi v2 c1_i32_10
  let c8_i32_11 : BitVec 32 := 8#32
  let v14 : BitVec 32 := Scalar.addi v13 c8_i32_11
  let c8_i32_12 : BitVec 32 := 8#32
  let v15 : BitVec 32 := Scalar.remsi v14 c8_i32_12
  let c512_i32 : BitVec 32 := 512#32
  let v16 : BitVec 32 := Scalar.muli v15 c512_i32
  let v17 : Index := Scalar.indexCast v16
  let c0 : Index := 0#32
  ![v17.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v24 : BitVec 32 := Scalar.addi v2 c1_i32_13
  let c8_i32_14 : BitVec 32 := 8#32
  let v25 : BitVec 32 := Scalar.remsi v24 c8_i32_14
  let c512_i32_15 : BitVec 32 := 512#32
  let v26 : BitVec 32 := Scalar.muli v25 c512_i32_15
  let v27 : Index := Scalar.indexCast v26
  let c0_16 : Index := 0#32
  ![v27.toNat, 0]
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_30 : BitVec 32 := 1#32
  let v48 : BitVec 32 := Scalar.muli v7 c1_i32_30
  let v49 : BitVec 32 := Scalar.addi c0_i32_31 v48
  v49.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_49 : BitVec 32 := 1#32
  let v72 : BitVec 32 := Scalar.muli v5 c1_i32_49
  let v73 : BitVec 32 := Scalar.addi c0_i32_50 v72
  v73.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_68 : BitVec 32 := 1#32
  let v96 : BitVec 32 := Scalar.muli v7 c1_i32_68
  let v97 : BitVec 32 := Scalar.addi c0_i32_69 v96
  v97.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_87 : BitVec 32 := 1#32
  let v120 : BitVec 32 := Scalar.muli v5 c1_i32_87
  let v121 : BitVec 32 := Scalar.addi c0_i32_88 v120
  v121.toNat
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_106 : BitVec 32 := 1#32
  let v144 : BitVec 32 := Scalar.muli v7 c1_i32_106
  let v145 : BitVec 32 := Scalar.addi c0_i32_107 v144
  v145.toNat
def k0_dev8 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_124 : BitVec 32 := 1#32
  let v168 : BitVec 32 := Scalar.muli v5 c1_i32_124
  let v169 : BitVec 32 := Scalar.addi c0_i32_125 v168
  v169.toNat
def k0_dev9 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_142 : BitVec 32 := 1#32
  let v192 : BitVec 32 := Scalar.muli v7 c1_i32_142
  let v193 : BitVec 32 := Scalar.addi c0_i32_143 v192
  v193.toNat
def k0_dev10 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_160 : BitVec 32 := 1#32
  let v216 : BitVec 32 := Scalar.muli v5 c1_i32_160
  let v217 : BitVec 32 := Scalar.addi c0_i32_161 v216
  v217.toNat
def k0_dev11 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_178 : BitVec 32 := 1#32
  let v240 : BitVec 32 := Scalar.muli v7 c1_i32_178
  let v241 : BitVec 32 := Scalar.addi c0_i32_179 v240
  v241.toNat
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_196 : BitVec 32 := 1#32
  let v264 : BitVec 32 := Scalar.muli v5 c1_i32_196
  let v265 : BitVec 32 := Scalar.addi c0_i32_197 v264
  v265.toNat
def k0_dev13 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_214 : BitVec 32 := 1#32
  let v288 : BitVec 32 := Scalar.muli v7 c1_i32_214
  let v289 : BitVec 32 := Scalar.addi c0_i32_215 v288
  v289.toNat
def k0_dev14 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_232 : BitVec 32 := 1#32
  let v312 : BitVec 32 := Scalar.muli v5 c1_i32_232
  let v313 : BitVec 32 := Scalar.addi c0_i32_233 v312
  v313.toNat
def k0_dev15 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_250 : BitVec 32 := 1#32
  let v336 : BitVec 32 := Scalar.muli v7 c1_i32_250
  let v337 : BitVec 32 := Scalar.addi c0_i32_251 v336
  v337.toNat
def k0_dev16 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_268 : BitVec 32 := 1#32
  let v360 : BitVec 32 := Scalar.muli v5 c1_i32_268
  let v361 : BitVec 32 := Scalar.addi c0_i32_269 v360
  v361.toNat
def k0_dev17 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_286 : BitVec 32 := 1#32
  let v384 : BitVec 32 := Scalar.muli v7 c1_i32_286
  let v385 : BitVec 32 := Scalar.addi c0_i32_287 v384
  v385.toNat
def k0_dev18 (d0 : Dev nD) : Nat :=
  let c0_i32_305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_304 : BitVec 32 := 1#32
  let v408 : BitVec 32 := Scalar.muli v5 c1_i32_304
  let v409 : BitVec 32 := Scalar.addi c0_i32_305 v408
  v409.toNat
def k0_off3 (d0 : Dev nD) (c0_i32_310 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v418 : BitVec 32 := Scalar.subi v2 c0_i32_310
  let c2_i32_311 : BitVec 32 := 2#32
  let v419 : BitVec 32 := Scalar.subi v418 c2_i32_311
  let c16_i32 : BitVec 32 := 16#32
  let v420 : BitVec 32 := Scalar.addi v419 c16_i32
  let c8_i32_312 : BitVec 32 := 8#32
  let v421 : BitVec 32 := Scalar.remsi v420 c8_i32_312
  let c512_i32_313 : BitVec 32 := 512#32
  let v422 : BitVec 32 := Scalar.muli v421 c512_i32_313
  let v423 : Index := Scalar.indexCast v422
  let c0_314 : Index := 0#32
  ![v423.toNat, 0]
def k0_off4 (d0 : Dev nD) (c0_i32_315 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v430 : BitVec 32 := Scalar.addi v2 c0_i32_315
  let c2_i32_316 : BitVec 32 := 2#32
  let v431 : BitVec 32 := Scalar.addi v430 c2_i32_316
  let c8_i32_317 : BitVec 32 := 8#32
  let v432 : BitVec 32 := Scalar.remsi v431 c8_i32_317
  let c512_i32_318 : BitVec 32 := 512#32
  let v433 : BitVec 32 := Scalar.muli v432 c512_i32_318
  let v434 : Index := Scalar.indexCast v433
  let c0_319 : Index := 0#32
  ![v434.toNat, 0]
def k0_dev19 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_355 : BitVec 32 := 1#32
  let v474 : BitVec 32 := Scalar.muli v5 c1_i32_355
  let v475 : BitVec 32 := Scalar.addi c0_i32_356 v474
  v475.toNat
def k0_dev20 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_366 : BitVec 32 := 1#32
  let v478 : BitVec 32 := Scalar.muli v7 c1_i32_366
  let v479 : BitVec 32 := Scalar.addi c0_i32_367 v478
  v479.toNat
def k0_dev21 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_408 : BitVec 32 := 1#32
  let v521 : BitVec 32 := Scalar.muli v7 c1_i32_408
  let v522 : BitVec 32 := Scalar.addi c0_i32_409 v521
  v522.toNat
def k0_dev22 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_419 : BitVec 32 := 1#32
  let v525 : BitVec 32 := Scalar.muli v5 c1_i32_419
  let v526 : BitVec 32 := Scalar.addi c0_i32_420 v525
  v526.toNat
def k0_dev23 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_461 : BitVec 32 := 1#32
  let v568 : BitVec 32 := Scalar.muli v5 c1_i32_461
  let v569 : BitVec 32 := Scalar.addi c0_i32_462 v568
  v569.toNat
def k0_dev24 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_472 : BitVec 32 := 1#32
  let v572 : BitVec 32 := Scalar.muli v7 c1_i32_472
  let v573 : BitVec 32 := Scalar.addi c0_i32_473 v572
  v573.toNat
def k0_dev25 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_514 : BitVec 32 := 1#32
  let v615 : BitVec 32 := Scalar.muli v7 c1_i32_514
  let v616 : BitVec 32 := Scalar.addi c0_i32_515 v615
  v616.toNat
def k0_dev26 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_525 : BitVec 32 := 1#32
  let v619 : BitVec 32 := Scalar.muli v5 c1_i32_525
  let v620 : BitVec 32 := Scalar.addi c0_i32_526 v619
  v620.toNat
def k0_dev27 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_567 : BitVec 32 := 1#32
  let v662 : BitVec 32 := Scalar.muli v5 c1_i32_567
  let v663 : BitVec 32 := Scalar.addi c0_i32_568 v662
  v663.toNat
def k0_dev28 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_578 : BitVec 32 := 1#32
  let v666 : BitVec 32 := Scalar.muli v7 c1_i32_578
  let v667 : BitVec 32 := Scalar.addi c0_i32_579 v666
  v667.toNat
def k0_dev29 (d0 : Dev nD) : Nat :=
  let c0_i32_621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_620 : BitVec 32 := 1#32
  let v709 : BitVec 32 := Scalar.muli v7 c1_i32_620
  let v710 : BitVec 32 := Scalar.addi c0_i32_621 v709
  v710.toNat
def k0_dev30 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_631 : BitVec 32 := 1#32
  let v713 : BitVec 32 := Scalar.muli v5 c1_i32_631
  let v714 : BitVec 32 := Scalar.addi c0_i32_632 v713
  v714.toNat
def k0_dev31 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_673 : BitVec 32 := 1#32
  let v756 : BitVec 32 := Scalar.muli v5 c1_i32_673
  let v757 : BitVec 32 := Scalar.addi c0_i32_674 v756
  v757.toNat
def k0_dev32 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_684 : BitVec 32 := 1#32
  let v760 : BitVec 32 := Scalar.muli v7 c1_i32_684
  let v761 : BitVec 32 := Scalar.addi c0_i32_685 v760
  v761.toNat
def k0_dev33 (d0 : Dev nD) : Nat :=
  let c0_i32_727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_726 : BitVec 32 := 1#32
  let v803 : BitVec 32 := Scalar.muli v7 c1_i32_726
  let v804 : BitVec 32 := Scalar.addi c0_i32_727 v803
  v804.toNat
def k0_dev34 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_737 : BitVec 32 := 1#32
  let v807 : BitVec 32 := Scalar.muli v5 c1_i32_737
  let v808 : BitVec 32 := Scalar.addi c0_i32_738 v807
  v808.toNat
def k0_dev35 (d0 : Dev nD) : Nat :=
  let c0_i32_780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_779 : BitVec 32 := 1#32
  let v850 : BitVec 32 := Scalar.muli v5 c1_i32_779
  let v851 : BitVec 32 := Scalar.addi c0_i32_780 v850
  v851.toNat
def k0_dev36 (d0 : Dev nD) : Nat :=
  let c0_i32_791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_790 : BitVec 32 := 1#32
  let v854 : BitVec 32 := Scalar.muli v7 c1_i32_790
  let v855 : BitVec 32 := Scalar.addi c0_i32_791 v854
  v855.toNat
def k0_dev37 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_832 : BitVec 32 := 1#32
  let v897 : BitVec 32 := Scalar.muli v7 c1_i32_832
  let v898 : BitVec 32 := Scalar.addi c0_i32_833 v897
  v898.toNat
def k0_dev38 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_843 : BitVec 32 := 1#32
  let v901 : BitVec 32 := Scalar.muli v5 c1_i32_843
  let v902 : BitVec 32 := Scalar.addi c0_i32_844 v901
  v902.toNat
def k0_dev39 (d0 : Dev nD) : Nat :=
  let c0_i32_886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_885 : BitVec 32 := 1#32
  let v944 : BitVec 32 := Scalar.muli v5 c1_i32_885
  let v945 : BitVec 32 := Scalar.addi c0_i32_886 v944
  v945.toNat
def k0_dev40 (d0 : Dev nD) : Nat :=
  let c0_i32_897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_896 : BitVec 32 := 1#32
  let v948 : BitVec 32 := Scalar.muli v7 c1_i32_896
  let v949 : BitVec 32 := Scalar.addi c0_i32_897 v948
  v949.toNat
def k0_dev41 (d0 : Dev nD) : Nat :=
  let c0_i32_939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_938 : BitVec 32 := 1#32
  let v991 : BitVec 32 := Scalar.muli v7 c1_i32_938
  let v992 : BitVec 32 := Scalar.addi c0_i32_939 v991
  v992.toNat
def k0_dev42 (d0 : Dev nD) : Nat :=
  let c0_i32_950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_949 : BitVec 32 := 1#32
  let v995 : BitVec 32 := Scalar.muli v5 c1_i32_949
  let v996 : BitVec 32 := Scalar.addi c0_i32_950 v995
  v996.toNat
def k0_dev43 (d0 : Dev nD) : Nat :=
  let c0_i32_992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_991 : BitVec 32 := 1#32
  let v1038 : BitVec 32 := Scalar.muli v5 c1_i32_991
  let v1039 : BitVec 32 := Scalar.addi c0_i32_992 v1038
  v1039.toNat
def k0_dev44 (d0 : Dev nD) : Nat :=
  let c0_i32_1003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1002 : BitVec 32 := 1#32
  let v1042 : BitVec 32 := Scalar.muli v7 c1_i32_1002
  let v1043 : BitVec 32 := Scalar.addi c0_i32_1003 v1042
  v1043.toNat
def k0_dev45 (d0 : Dev nD) : Nat :=
  let c0_i32_1045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1044 : BitVec 32 := 1#32
  let v1085 : BitVec 32 := Scalar.muli v7 c1_i32_1044
  let v1086 : BitVec 32 := Scalar.addi c0_i32_1045 v1085
  v1086.toNat
def k0_dev46 (d0 : Dev nD) : Nat :=
  let c0_i32_1056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1055 : BitVec 32 := 1#32
  let v1089 : BitVec 32 := Scalar.muli v5 c1_i32_1055
  let v1090 : BitVec 32 := Scalar.addi c0_i32_1056 v1089
  v1090.toNat
def k0_dev47 (d0 : Dev nD) : Nat :=
  let c0_i32_1098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1097 : BitVec 32 := 1#32
  let v1132 : BitVec 32 := Scalar.muli v5 c1_i32_1097
  let v1133 : BitVec 32 := Scalar.addi c0_i32_1098 v1132
  v1133.toNat
def k0_dev48 (d0 : Dev nD) : Nat :=
  let c0_i32_1109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1108 : BitVec 32 := 1#32
  let v1136 : BitVec 32 := Scalar.muli v7 c1_i32_1108
  let v1137 : BitVec 32 := Scalar.addi c0_i32_1109 v1136
  v1137.toNat
def k0_dev49 (d0 : Dev nD) : Nat :=
  let c0_i32_1151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1150 : BitVec 32 := 1#32
  let v1179 : BitVec 32 := Scalar.muli v7 c1_i32_1150
  let v1180 : BitVec 32 := Scalar.addi c0_i32_1151 v1179
  v1180.toNat
def k0_dev50 (d0 : Dev nD) : Nat :=
  let c0_i32_1162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1161 : BitVec 32 := 1#32
  let v1183 : BitVec 32 := Scalar.muli v5 c1_i32_1161
  let v1184 : BitVec 32 := Scalar.addi c0_i32_1162 v1183
  v1184.toNat
def k0_dev51 (d0 : Dev nD) : Nat :=
  let c0_i32_1215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1214 : BitVec 32 := 1#32
  let v1249 : BitVec 32 := Scalar.muli v5 c1_i32_1214
  let v1250 : BitVec 32 := Scalar.addi c0_i32_1215 v1249
  v1250.toNat
def k0_dev52 (d0 : Dev nD) : Nat :=
  let c0_i32_1226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1225 : BitVec 32 := 1#32
  let v1253 : BitVec 32 := Scalar.muli v7 c1_i32_1225
  let v1254 : BitVec 32 := Scalar.addi c0_i32_1226 v1253
  v1254.toNat
def k0_dev53 (d0 : Dev nD) : Nat :=
  let c0_i32_1268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1267 : BitVec 32 := 1#32
  let v1296 : BitVec 32 := Scalar.muli v7 c1_i32_1267
  let v1297 : BitVec 32 := Scalar.addi c0_i32_1268 v1296
  v1297.toNat
def k0_dev54 (d0 : Dev nD) : Nat :=
  let c0_i32_1279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1278 : BitVec 32 := 1#32
  let v1300 : BitVec 32 := Scalar.muli v5 c1_i32_1278
  let v1301 : BitVec 32 := Scalar.addi c0_i32_1279 v1300
  v1301.toNat
def k0_dev55 (d0 : Dev nD) : Nat :=
  let c0_i32_1321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1320 : BitVec 32 := 1#32
  let v1343 : BitVec 32 := Scalar.muli v5 c1_i32_1320
  let v1344 : BitVec 32 := Scalar.addi c0_i32_1321 v1343
  v1344.toNat
def k0_dev56 (d0 : Dev nD) : Nat :=
  let c0_i32_1332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1331 : BitVec 32 := 1#32
  let v1347 : BitVec 32 := Scalar.muli v7 c1_i32_1331
  let v1348 : BitVec 32 := Scalar.addi c0_i32_1332 v1347
  v1348.toNat
def k0_dev57 (d0 : Dev nD) : Nat :=
  let c0_i32_1374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1373 : BitVec 32 := 1#32
  let v1390 : BitVec 32 := Scalar.muli v7 c1_i32_1373
  let v1391 : BitVec 32 := Scalar.addi c0_i32_1374 v1390
  v1391.toNat
def k0_dev58 (d0 : Dev nD) : Nat :=
  let c0_i32_1385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1384 : BitVec 32 := 1#32
  let v1394 : BitVec 32 := Scalar.muli v5 c1_i32_1384
  let v1395 : BitVec 32 := Scalar.addi c0_i32_1385 v1394
  v1395.toNat
def k0_dev59 (d0 : Dev nD) : Nat :=
  let c0_i32_1427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1426 : BitVec 32 := 1#32
  let v1437 : BitVec 32 := Scalar.muli v5 c1_i32_1426
  let v1438 : BitVec 32 := Scalar.addi c0_i32_1427 v1437
  v1438.toNat
def k0_dev60 (d0 : Dev nD) : Nat :=
  let c0_i32_1438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1437 : BitVec 32 := 1#32
  let v1441 : BitVec 32 := Scalar.muli v7 c1_i32_1437
  let v1442 : BitVec 32 := Scalar.addi c0_i32_1438 v1441
  v1442.toNat
def k0_dev61 (d0 : Dev nD) : Nat :=
  let c0_i32_1480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1479 : BitVec 32 := 1#32
  let v1484 : BitVec 32 := Scalar.muli v7 c1_i32_1479
  let v1485 : BitVec 32 := Scalar.addi c0_i32_1480 v1484
  v1485.toNat
def k0_dev62 (d0 : Dev nD) : Nat :=
  let c0_i32_1491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1490 : BitVec 32 := 1#32
  let v1488 : BitVec 32 := Scalar.muli v5 c1_i32_1490
  let v1489 : BitVec 32 := Scalar.addi c0_i32_1491 v1488
  v1489.toNat
def k0_dev63 (d0 : Dev nD) : Nat :=
  let c0_i32_1533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1532 : BitVec 32 := 1#32
  let v1531 : BitVec 32 := Scalar.muli v5 c1_i32_1532
  let v1532 : BitVec 32 := Scalar.addi c0_i32_1533 v1531
  v1532.toNat
def k0_dev64 (d0 : Dev nD) : Nat :=
  let c0_i32_1544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1543 : BitVec 32 := 1#32
  let v1535 : BitVec 32 := Scalar.muli v7 c1_i32_1543
  let v1536 : BitVec 32 := Scalar.addi c0_i32_1544 v1535
  v1536.toNat
def k0_dev65 (d0 : Dev nD) : Nat :=
  let c0_i32_1586 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1585 : BitVec 32 := 1#32
  let v1578 : BitVec 32 := Scalar.muli v7 c1_i32_1585
  let v1579 : BitVec 32 := Scalar.addi c0_i32_1586 v1578
  v1579.toNat
def k0_dev66 (d0 : Dev nD) : Nat :=
  let c0_i32_1597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1596 : BitVec 32 := 1#32
  let v1582 : BitVec 32 := Scalar.muli v5 c1_i32_1596
  let v1583 : BitVec 32 := Scalar.addi c0_i32_1597 v1582
  v1583.toNat
def k0_dev67 (d0 : Dev nD) : Nat :=
  let c0_i32_1639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1638 : BitVec 32 := 1#32
  let v1625 : BitVec 32 := Scalar.muli v5 c1_i32_1638
  let v1626 : BitVec 32 := Scalar.addi c0_i32_1639 v1625
  v1626.toNat
def k0_dev68 (d0 : Dev nD) : Nat :=
  let c0_i32_1650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1649 : BitVec 32 := 1#32
  let v1629 : BitVec 32 := Scalar.muli v7 c1_i32_1649
  let v1630 : BitVec 32 := Scalar.addi c0_i32_1650 v1629
  v1630.toNat
def k0_dev69 (d0 : Dev nD) : Nat :=
  let c0_i32_1692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1691 : BitVec 32 := 1#32
  let v1672 : BitVec 32 := Scalar.muli v7 c1_i32_1691
  let v1673 : BitVec 32 := Scalar.addi c0_i32_1692 v1672
  v1673.toNat
def k0_dev70 (d0 : Dev nD) : Nat :=
  let c0_i32_1703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1702 : BitVec 32 := 1#32
  let v1676 : BitVec 32 := Scalar.muli v5 c1_i32_1702
  let v1677 : BitVec 32 := Scalar.addi c0_i32_1703 v1676
  v1677.toNat
def k0_dev71 (d0 : Dev nD) : Nat :=
  let c0_i32_1745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1744 : BitVec 32 := 1#32
  let v1719 : BitVec 32 := Scalar.muli v5 c1_i32_1744
  let v1720 : BitVec 32 := Scalar.addi c0_i32_1745 v1719
  v1720.toNat
def k0_dev72 (d0 : Dev nD) : Nat :=
  let c0_i32_1756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1755 : BitVec 32 := 1#32
  let v1723 : BitVec 32 := Scalar.muli v7 c1_i32_1755
  let v1724 : BitVec 32 := Scalar.addi c0_i32_1756 v1723
  v1724.toNat
def k0_dev73 (d0 : Dev nD) : Nat :=
  let c0_i32_1798 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1797 : BitVec 32 := 1#32
  let v1766 : BitVec 32 := Scalar.muli v7 c1_i32_1797
  let v1767 : BitVec 32 := Scalar.addi c0_i32_1798 v1766
  v1767.toNat
def k0_dev74 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1808 : BitVec 32 := 1#32
  let v1770 : BitVec 32 := Scalar.muli v5 c1_i32_1808
  let v1771 : BitVec 32 := Scalar.addi c0_i32_1809 v1770
  v1771.toNat
def k0_dev75 (d0 : Dev nD) : Nat :=
  let c0_i32_1851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1850 : BitVec 32 := 1#32
  let v1813 : BitVec 32 := Scalar.muli v5 c1_i32_1850
  let v1814 : BitVec 32 := Scalar.addi c0_i32_1851 v1813
  v1814.toNat
def k0_dev76 (d0 : Dev nD) : Nat :=
  let c0_i32_1862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1861 : BitVec 32 := 1#32
  let v1817 : BitVec 32 := Scalar.muli v7 c1_i32_1861
  let v1818 : BitVec 32 := Scalar.addi c0_i32_1862 v1817
  v1818.toNat
def k0_dev77 (d0 : Dev nD) : Nat :=
  let c0_i32_1904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1903 : BitVec 32 := 1#32
  let v1860 : BitVec 32 := Scalar.muli v7 c1_i32_1903
  let v1861 : BitVec 32 := Scalar.addi c0_i32_1904 v1860
  v1861.toNat
def k0_dev78 (d0 : Dev nD) : Nat :=
  let c0_i32_1915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1914 : BitVec 32 := 1#32
  let v1864 : BitVec 32 := Scalar.muli v5 c1_i32_1914
  let v1865 : BitVec 32 := Scalar.addi c0_i32_1915 v1864
  v1865.toNat
def k0_dev79 (d0 : Dev nD) : Nat :=
  let c0_i32_1957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1956 : BitVec 32 := 1#32
  let v1907 : BitVec 32 := Scalar.muli v5 c1_i32_1956
  let v1908 : BitVec 32 := Scalar.addi c0_i32_1957 v1907
  v1908.toNat
def k0_dev80 (d0 : Dev nD) : Nat :=
  let c0_i32_1968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1967 : BitVec 32 := 1#32
  let v1911 : BitVec 32 := Scalar.muli v7 c1_i32_1967
  let v1912 : BitVec 32 := Scalar.addi c0_i32_1968 v1911
  v1912.toNat
def k0_dev81 (d0 : Dev nD) : Nat :=
  let c0_i32_2010 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2009 : BitVec 32 := 1#32
  let v1954 : BitVec 32 := Scalar.muli v7 c1_i32_2009
  let v1955 : BitVec 32 := Scalar.addi c0_i32_2010 v1954
  v1955.toNat
def k0_dev82 (d0 : Dev nD) : Nat :=
  let c0_i32_2021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2020 : BitVec 32 := 1#32
  let v1958 : BitVec 32 := Scalar.muli v5 c1_i32_2020
  let v1959 : BitVec 32 := Scalar.addi c0_i32_2021 v1958
  v1959.toNat
def k0_dev83 (d0 : Dev nD) : Nat :=
  let c0_i32_2074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2073 : BitVec 32 := 1#32
  let v2024 : BitVec 32 := Scalar.muli v5 c1_i32_2073
  let v2025 : BitVec 32 := Scalar.addi c0_i32_2074 v2024
  v2025.toNat
def k0_dev84 (d0 : Dev nD) : Nat :=
  let c0_i32_2085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2084 : BitVec 32 := 1#32
  let v2028 : BitVec 32 := Scalar.muli v7 c1_i32_2084
  let v2029 : BitVec 32 := Scalar.addi c0_i32_2085 v2028
  v2029.toNat
def k0_dev85 (d0 : Dev nD) : Nat :=
  let c0_i32_2127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2126 : BitVec 32 := 1#32
  let v2071 : BitVec 32 := Scalar.muli v7 c1_i32_2126
  let v2072 : BitVec 32 := Scalar.addi c0_i32_2127 v2071
  v2072.toNat
def k0_dev86 (d0 : Dev nD) : Nat :=
  let c0_i32_2138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2137 : BitVec 32 := 1#32
  let v2075 : BitVec 32 := Scalar.muli v5 c1_i32_2137
  let v2076 : BitVec 32 := Scalar.addi c0_i32_2138 v2075
  v2076.toNat
def k0_dev87 (d0 : Dev nD) : Nat :=
  let c0_i32_2180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2179 : BitVec 32 := 1#32
  let v2118 : BitVec 32 := Scalar.muli v5 c1_i32_2179
  let v2119 : BitVec 32 := Scalar.addi c0_i32_2180 v2118
  v2119.toNat
def k0_dev88 (d0 : Dev nD) : Nat :=
  let c0_i32_2191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2190 : BitVec 32 := 1#32
  let v2122 : BitVec 32 := Scalar.muli v7 c1_i32_2190
  let v2123 : BitVec 32 := Scalar.addi c0_i32_2191 v2122
  v2123.toNat
def k0_dev89 (d0 : Dev nD) : Nat :=
  let c0_i32_2233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2232 : BitVec 32 := 1#32
  let v2165 : BitVec 32 := Scalar.muli v7 c1_i32_2232
  let v2166 : BitVec 32 := Scalar.addi c0_i32_2233 v2165
  v2166.toNat
def k0_dev90 (d0 : Dev nD) : Nat :=
  let c0_i32_2244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2243 : BitVec 32 := 1#32
  let v2169 : BitVec 32 := Scalar.muli v5 c1_i32_2243
  let v2170 : BitVec 32 := Scalar.addi c0_i32_2244 v2169
  v2170.toNat
def k0_dev91 (d0 : Dev nD) : Nat :=
  let c0_i32_2286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2285 : BitVec 32 := 1#32
  let v2212 : BitVec 32 := Scalar.muli v5 c1_i32_2285
  let v2213 : BitVec 32 := Scalar.addi c0_i32_2286 v2212
  v2213.toNat
def k0_dev92 (d0 : Dev nD) : Nat :=
  let c0_i32_2297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2296 : BitVec 32 := 1#32
  let v2216 : BitVec 32 := Scalar.muli v7 c1_i32_2296
  let v2217 : BitVec 32 := Scalar.addi c0_i32_2297 v2216
  v2217.toNat
def k0_dev93 (d0 : Dev nD) : Nat :=
  let c0_i32_2339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2338 : BitVec 32 := 1#32
  let v2259 : BitVec 32 := Scalar.muli v7 c1_i32_2338
  let v2260 : BitVec 32 := Scalar.addi c0_i32_2339 v2259
  v2260.toNat
def k0_dev94 (d0 : Dev nD) : Nat :=
  let c0_i32_2350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2349 : BitVec 32 := 1#32
  let v2263 : BitVec 32 := Scalar.muli v5 c1_i32_2349
  let v2264 : BitVec 32 := Scalar.addi c0_i32_2350 v2263
  v2264.toNat
def k0_dev95 (d0 : Dev nD) : Nat :=
  let c0_i32_2392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2391 : BitVec 32 := 1#32
  let v2306 : BitVec 32 := Scalar.muli v5 c1_i32_2391
  let v2307 : BitVec 32 := Scalar.addi c0_i32_2392 v2306
  v2307.toNat
def k0_dev96 (d0 : Dev nD) : Nat :=
  let c0_i32_2403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2402 : BitVec 32 := 1#32
  let v2310 : BitVec 32 := Scalar.muli v7 c1_i32_2402
  let v2311 : BitVec 32 := Scalar.addi c0_i32_2403 v2310
  v2311.toNat
def k0_dev97 (d0 : Dev nD) : Nat :=
  let c0_i32_2445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2444 : BitVec 32 := 1#32
  let v2353 : BitVec 32 := Scalar.muli v7 c1_i32_2444
  let v2354 : BitVec 32 := Scalar.addi c0_i32_2445 v2353
  v2354.toNat
def k0_dev98 (d0 : Dev nD) : Nat :=
  let c0_i32_2456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2455 : BitVec 32 := 1#32
  let v2357 : BitVec 32 := Scalar.muli v5 c1_i32_2455
  let v2358 : BitVec 32 := Scalar.addi c0_i32_2456 v2357
  v2358.toNat
def k0_dev99 (d0 : Dev nD) : Nat :=
  let c0_i32_2498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2497 : BitVec 32 := 1#32
  let v2400 : BitVec 32 := Scalar.muli v5 c1_i32_2497
  let v2401 : BitVec 32 := Scalar.addi c0_i32_2498 v2400
  v2401.toNat
def k0_dev100 (d0 : Dev nD) : Nat :=
  let c0_i32_2509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2508 : BitVec 32 := 1#32
  let v2404 : BitVec 32 := Scalar.muli v7 c1_i32_2508
  let v2405 : BitVec 32 := Scalar.addi c0_i32_2509 v2404
  v2405.toNat
def k0_dev101 (d0 : Dev nD) : Nat :=
  let c0_i32_2551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2550 : BitVec 32 := 1#32
  let v2447 : BitVec 32 := Scalar.muli v7 c1_i32_2550
  let v2448 : BitVec 32 := Scalar.addi c0_i32_2551 v2447
  v2448.toNat
def k0_dev102 (d0 : Dev nD) : Nat :=
  let c0_i32_2562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2561 : BitVec 32 := 1#32
  let v2451 : BitVec 32 := Scalar.muli v5 c1_i32_2561
  let v2452 : BitVec 32 := Scalar.addi c0_i32_2562 v2451
  v2452.toNat
def k0_dev103 (d0 : Dev nD) : Nat :=
  let c0_i32_2604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2603 : BitVec 32 := 1#32
  let v2494 : BitVec 32 := Scalar.muli v5 c1_i32_2603
  let v2495 : BitVec 32 := Scalar.addi c0_i32_2604 v2494
  v2495.toNat
def k0_dev104 (d0 : Dev nD) : Nat :=
  let c0_i32_2615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2614 : BitVec 32 := 1#32
  let v2498 : BitVec 32 := Scalar.muli v7 c1_i32_2614
  let v2499 : BitVec 32 := Scalar.addi c0_i32_2615 v2498
  v2499.toNat
def k0_dev105 (d0 : Dev nD) : Nat :=
  let c0_i32_2657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2656 : BitVec 32 := 1#32
  let v2541 : BitVec 32 := Scalar.muli v7 c1_i32_2656
  let v2542 : BitVec 32 := Scalar.addi c0_i32_2657 v2541
  v2542.toNat
def k0_dev106 (d0 : Dev nD) : Nat :=
  let c0_i32_2668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2667 : BitVec 32 := 1#32
  let v2545 : BitVec 32 := Scalar.muli v5 c1_i32_2667
  let v2546 : BitVec 32 := Scalar.addi c0_i32_2668 v2545
  v2546.toNat
def k0_dev107 (d0 : Dev nD) : Nat :=
  let c0_i32_2710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2709 : BitVec 32 := 1#32
  let v2588 : BitVec 32 := Scalar.muli v5 c1_i32_2709
  let v2589 : BitVec 32 := Scalar.addi c0_i32_2710 v2588
  v2589.toNat
def k0_dev108 (d0 : Dev nD) : Nat :=
  let c0_i32_2721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2720 : BitVec 32 := 1#32
  let v2592 : BitVec 32 := Scalar.muli v7 c1_i32_2720
  let v2593 : BitVec 32 := Scalar.addi c0_i32_2721 v2592
  v2593.toNat
def k0_dev109 (d0 : Dev nD) : Nat :=
  let c0_i32_2763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2762 : BitVec 32 := 1#32
  let v2635 : BitVec 32 := Scalar.muli v7 c1_i32_2762
  let v2636 : BitVec 32 := Scalar.addi c0_i32_2763 v2635
  v2636.toNat
def k0_dev110 (d0 : Dev nD) : Nat :=
  let c0_i32_2774 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2773 : BitVec 32 := 1#32
  let v2639 : BitVec 32 := Scalar.muli v5 c1_i32_2773
  let v2640 : BitVec 32 := Scalar.addi c0_i32_2774 v2639
  v2640.toNat
def k0_dev111 (d0 : Dev nD) : Nat :=
  let c0_i32_2816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2815 : BitVec 32 := 1#32
  let v2682 : BitVec 32 := Scalar.muli v5 c1_i32_2815
  let v2683 : BitVec 32 := Scalar.addi c0_i32_2816 v2682
  v2683.toNat
def k0_dev112 (d0 : Dev nD) : Nat :=
  let c0_i32_2827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2826 : BitVec 32 := 1#32
  let v2686 : BitVec 32 := Scalar.muli v7 c1_i32_2826
  let v2687 : BitVec 32 := Scalar.addi c0_i32_2827 v2686
  v2687.toNat
def k0_dev113 (d0 : Dev nD) : Nat :=
  let c0_i32_2869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2868 : BitVec 32 := 1#32
  let v2729 : BitVec 32 := Scalar.muli v7 c1_i32_2868
  let v2730 : BitVec 32 := Scalar.addi c0_i32_2869 v2729
  v2730.toNat
def k0_dev114 (d0 : Dev nD) : Nat :=
  let c0_i32_2880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2879 : BitVec 32 := 1#32
  let v2733 : BitVec 32 := Scalar.muli v5 c1_i32_2879
  let v2734 : BitVec 32 := Scalar.addi c0_i32_2880 v2733
  v2734.toNat
def k0_dev115 (d0 : Dev nD) : Nat :=
  let c0_i32_2933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2932 : BitVec 32 := 1#32
  let v2799 : BitVec 32 := Scalar.muli v5 c1_i32_2932
  let v2800 : BitVec 32 := Scalar.addi c0_i32_2933 v2799
  v2800.toNat
def k0_dev116 (d0 : Dev nD) : Nat :=
  let c0_i32_2944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2943 : BitVec 32 := 1#32
  let v2803 : BitVec 32 := Scalar.muli v7 c1_i32_2943
  let v2804 : BitVec 32 := Scalar.addi c0_i32_2944 v2803
  v2804.toNat
def k0_dev117 (d0 : Dev nD) : Nat :=
  let c0_i32_2986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2985 : BitVec 32 := 1#32
  let v2846 : BitVec 32 := Scalar.muli v7 c1_i32_2985
  let v2847 : BitVec 32 := Scalar.addi c0_i32_2986 v2846
  v2847.toNat
def k0_dev118 (d0 : Dev nD) : Nat :=
  let c0_i32_2997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2996 : BitVec 32 := 1#32
  let v2850 : BitVec 32 := Scalar.muli v5 c1_i32_2996
  let v2851 : BitVec 32 := Scalar.addi c0_i32_2997 v2850
  v2851.toNat
def k0_dev119 (d0 : Dev nD) : Nat :=
  let c0_i32_3039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3038 : BitVec 32 := 1#32
  let v2893 : BitVec 32 := Scalar.muli v5 c1_i32_3038
  let v2894 : BitVec 32 := Scalar.addi c0_i32_3039 v2893
  v2894.toNat
def k0_dev120 (d0 : Dev nD) : Nat :=
  let c0_i32_3050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3049 : BitVec 32 := 1#32
  let v2897 : BitVec 32 := Scalar.muli v7 c1_i32_3049
  let v2898 : BitVec 32 := Scalar.addi c0_i32_3050 v2897
  v2898.toNat
def k0_dev121 (d0 : Dev nD) : Nat :=
  let c0_i32_3092 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3091 : BitVec 32 := 1#32
  let v2940 : BitVec 32 := Scalar.muli v7 c1_i32_3091
  let v2941 : BitVec 32 := Scalar.addi c0_i32_3092 v2940
  v2941.toNat
def k0_dev122 (d0 : Dev nD) : Nat :=
  let c0_i32_3103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3102 : BitVec 32 := 1#32
  let v2944 : BitVec 32 := Scalar.muli v5 c1_i32_3102
  let v2945 : BitVec 32 := Scalar.addi c0_i32_3103 v2944
  v2945.toNat
def k0_dev123 (d0 : Dev nD) : Nat :=
  let c0_i32_3145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3144 : BitVec 32 := 1#32
  let v2987 : BitVec 32 := Scalar.muli v5 c1_i32_3144
  let v2988 : BitVec 32 := Scalar.addi c0_i32_3145 v2987
  v2988.toNat
def k0_dev124 (d0 : Dev nD) : Nat :=
  let c0_i32_3156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3155 : BitVec 32 := 1#32
  let v2991 : BitVec 32 := Scalar.muli v7 c1_i32_3155
  let v2992 : BitVec 32 := Scalar.addi c0_i32_3156 v2991
  v2992.toNat
def k0_dev125 (d0 : Dev nD) : Nat :=
  let c0_i32_3198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3197 : BitVec 32 := 1#32
  let v3034 : BitVec 32 := Scalar.muli v7 c1_i32_3197
  let v3035 : BitVec 32 := Scalar.addi c0_i32_3198 v3034
  v3035.toNat
def k0_dev126 (d0 : Dev nD) : Nat :=
  let c0_i32_3209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3208 : BitVec 32 := 1#32
  let v3038 : BitVec 32 := Scalar.muli v5 c1_i32_3208
  let v3039 : BitVec 32 := Scalar.addi c0_i32_3209 v3038
  v3039.toNat
def k0_dev127 (d0 : Dev nD) : Nat :=
  let c0_i32_3251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3250 : BitVec 32 := 1#32
  let v3081 : BitVec 32 := Scalar.muli v5 c1_i32_3250
  let v3082 : BitVec 32 := Scalar.addi c0_i32_3251 v3081
  v3082.toNat
def k0_dev128 (d0 : Dev nD) : Nat :=
  let c0_i32_3262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3261 : BitVec 32 := 1#32
  let v3085 : BitVec 32 := Scalar.muli v7 c1_i32_3261
  let v3086 : BitVec 32 := Scalar.addi c0_i32_3262 v3085
  v3086.toNat
def k0_dev129 (d0 : Dev nD) : Nat :=
  let c0_i32_3304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3303 : BitVec 32 := 1#32
  let v3128 : BitVec 32 := Scalar.muli v7 c1_i32_3303
  let v3129 : BitVec 32 := Scalar.addi c0_i32_3304 v3128
  v3129.toNat
def k0_dev130 (d0 : Dev nD) : Nat :=
  let c0_i32_3315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3314 : BitVec 32 := 1#32
  let v3132 : BitVec 32 := Scalar.muli v5 c1_i32_3314
  let v3133 : BitVec 32 := Scalar.addi c0_i32_3315 v3132
  v3133.toNat
def k0_dev131 (d0 : Dev nD) : Nat :=
  let c0_i32_3357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3356 : BitVec 32 := 1#32
  let v3175 : BitVec 32 := Scalar.muli v5 c1_i32_3356
  let v3176 : BitVec 32 := Scalar.addi c0_i32_3357 v3175
  v3176.toNat
def k0_dev132 (d0 : Dev nD) : Nat :=
  let c0_i32_3368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3367 : BitVec 32 := 1#32
  let v3179 : BitVec 32 := Scalar.muli v7 c1_i32_3367
  let v3180 : BitVec 32 := Scalar.addi c0_i32_3368 v3179
  v3180.toNat
def k0_dev133 (d0 : Dev nD) : Nat :=
  let c0_i32_3410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3409 : BitVec 32 := 1#32
  let v3222 : BitVec 32 := Scalar.muli v7 c1_i32_3409
  let v3223 : BitVec 32 := Scalar.addi c0_i32_3410 v3222
  v3223.toNat
def k0_dev134 (d0 : Dev nD) : Nat :=
  let c0_i32_3421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3420 : BitVec 32 := 1#32
  let v3226 : BitVec 32 := Scalar.muli v5 c1_i32_3420
  let v3227 : BitVec 32 := Scalar.addi c0_i32_3421 v3226
  v3227.toNat
def k0_dev135 (d0 : Dev nD) : Nat :=
  let c0_i32_3463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3462 : BitVec 32 := 1#32
  let v3269 : BitVec 32 := Scalar.muli v5 c1_i32_3462
  let v3270 : BitVec 32 := Scalar.addi c0_i32_3463 v3269
  v3270.toNat
def k0_dev136 (d0 : Dev nD) : Nat :=
  let c0_i32_3474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3473 : BitVec 32 := 1#32
  let v3273 : BitVec 32 := Scalar.muli v7 c1_i32_3473
  let v3274 : BitVec 32 := Scalar.addi c0_i32_3474 v3273
  v3274.toNat
def k0_dev137 (d0 : Dev nD) : Nat :=
  let c0_i32_3516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3515 : BitVec 32 := 1#32
  let v3316 : BitVec 32 := Scalar.muli v7 c1_i32_3515
  let v3317 : BitVec 32 := Scalar.addi c0_i32_3516 v3316
  v3317.toNat
def k0_dev138 (d0 : Dev nD) : Nat :=
  let c0_i32_3527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3526 : BitVec 32 := 1#32
  let v3320 : BitVec 32 := Scalar.muli v5 c1_i32_3526
  let v3321 : BitVec 32 := Scalar.addi c0_i32_3527 v3320
  v3321.toNat
def k0_dev139 (d0 : Dev nD) : Nat :=
  let c0_i32_3569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3568 : BitVec 32 := 1#32
  let v3363 : BitVec 32 := Scalar.muli v5 c1_i32_3568
  let v3364 : BitVec 32 := Scalar.addi c0_i32_3569 v3363
  v3364.toNat
def k0_dev140 (d0 : Dev nD) : Nat :=
  let c0_i32_3580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3579 : BitVec 32 := 1#32
  let v3367 : BitVec 32 := Scalar.muli v7 c1_i32_3579
  let v3368 : BitVec 32 := Scalar.addi c0_i32_3580 v3367
  v3368.toNat
def k0_dev141 (d0 : Dev nD) : Nat :=
  let c0_i32_3622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3621 : BitVec 32 := 1#32
  let v3410 : BitVec 32 := Scalar.muli v7 c1_i32_3621
  let v3411 : BitVec 32 := Scalar.addi c0_i32_3622 v3410
  v3411.toNat
def k0_dev142 (d0 : Dev nD) : Nat :=
  let c0_i32_3633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3632 : BitVec 32 := 1#32
  let v3414 : BitVec 32 := Scalar.muli v5 c1_i32_3632
  let v3415 : BitVec 32 := Scalar.addi c0_i32_3633 v3414
  v3415.toNat
def k0_dev143 (d0 : Dev nD) : Nat :=
  let c0_i32_3675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3674 : BitVec 32 := 1#32
  let v3457 : BitVec 32 := Scalar.muli v5 c1_i32_3674
  let v3458 : BitVec 32 := Scalar.addi c0_i32_3675 v3457
  v3458.toNat
def k0_dev144 (d0 : Dev nD) : Nat :=
  let c0_i32_3686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3685 : BitVec 32 := 1#32
  let v3461 : BitVec 32 := Scalar.muli v7 c1_i32_3685
  let v3462 : BitVec 32 := Scalar.addi c0_i32_3686 v3461
  v3462.toNat
def k0_dev145 (d0 : Dev nD) : Nat :=
  let c0_i32_3728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3727 : BitVec 32 := 1#32
  let v3504 : BitVec 32 := Scalar.muli v7 c1_i32_3727
  let v3505 : BitVec 32 := Scalar.addi c0_i32_3728 v3504
  v3505.toNat
def k0_dev146 (d0 : Dev nD) : Nat :=
  let c0_i32_3739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3738 : BitVec 32 := 1#32
  let v3508 : BitVec 32 := Scalar.muli v5 c1_i32_3738
  let v3509 : BitVec 32 := Scalar.addi c0_i32_3739 v3508
  v3509.toNat
def k0_dev147 (d0 : Dev nD) : Nat :=
  let c0_i32_3792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3791 : BitVec 32 := 1#32
  let v3574 : BitVec 32 := Scalar.muli v5 c1_i32_3791
  let v3575 : BitVec 32 := Scalar.addi c0_i32_3792 v3574
  v3575.toNat
def k0_dev148 (d0 : Dev nD) : Nat :=
  let c0_i32_3803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3802 : BitVec 32 := 1#32
  let v3578 : BitVec 32 := Scalar.muli v7 c1_i32_3802
  let v3579 : BitVec 32 := Scalar.addi c0_i32_3803 v3578
  v3579.toNat
def k0_dev149 (d0 : Dev nD) : Nat :=
  let c0_i32_3845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3844 : BitVec 32 := 1#32
  let v3621 : BitVec 32 := Scalar.muli v7 c1_i32_3844
  let v3622 : BitVec 32 := Scalar.addi c0_i32_3845 v3621
  v3622.toNat
def k0_dev150 (d0 : Dev nD) : Nat :=
  let c0_i32_3856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3855 : BitVec 32 := 1#32
  let v3625 : BitVec 32 := Scalar.muli v5 c1_i32_3855
  let v3626 : BitVec 32 := Scalar.addi c0_i32_3856 v3625
  v3626.toNat
def k0_dev151 (d0 : Dev nD) : Nat :=
  let c0_i32_3898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3897 : BitVec 32 := 1#32
  let v3668 : BitVec 32 := Scalar.muli v5 c1_i32_3897
  let v3669 : BitVec 32 := Scalar.addi c0_i32_3898 v3668
  v3669.toNat
def k0_dev152 (d0 : Dev nD) : Nat :=
  let c0_i32_3909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3908 : BitVec 32 := 1#32
  let v3672 : BitVec 32 := Scalar.muli v7 c1_i32_3908
  let v3673 : BitVec 32 := Scalar.addi c0_i32_3909 v3672
  v3673.toNat
def k0_dev153 (d0 : Dev nD) : Nat :=
  let c0_i32_3951 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3950 : BitVec 32 := 1#32
  let v3715 : BitVec 32 := Scalar.muli v7 c1_i32_3950
  let v3716 : BitVec 32 := Scalar.addi c0_i32_3951 v3715
  v3716.toNat
def k0_dev154 (d0 : Dev nD) : Nat :=
  let c0_i32_3962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3961 : BitVec 32 := 1#32
  let v3719 : BitVec 32 := Scalar.muli v5 c1_i32_3961
  let v3720 : BitVec 32 := Scalar.addi c0_i32_3962 v3719
  v3720.toNat
def k0_dev155 (d0 : Dev nD) : Nat :=
  let c0_i32_4004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4003 : BitVec 32 := 1#32
  let v3762 : BitVec 32 := Scalar.muli v5 c1_i32_4003
  let v3763 : BitVec 32 := Scalar.addi c0_i32_4004 v3762
  v3763.toNat
def k0_dev156 (d0 : Dev nD) : Nat :=
  let c0_i32_4015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4014 : BitVec 32 := 1#32
  let v3766 : BitVec 32 := Scalar.muli v7 c1_i32_4014
  let v3767 : BitVec 32 := Scalar.addi c0_i32_4015 v3766
  v3767.toNat
def k0_dev157 (d0 : Dev nD) : Nat :=
  let c0_i32_4057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4056 : BitVec 32 := 1#32
  let v3809 : BitVec 32 := Scalar.muli v7 c1_i32_4056
  let v3810 : BitVec 32 := Scalar.addi c0_i32_4057 v3809
  v3810.toNat
def k0_dev158 (d0 : Dev nD) : Nat :=
  let c0_i32_4068 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4067 : BitVec 32 := 1#32
  let v3813 : BitVec 32 := Scalar.muli v5 c1_i32_4067
  let v3814 : BitVec 32 := Scalar.addi c0_i32_4068 v3813
  v3814.toNat
def k0_dev159 (d0 : Dev nD) : Nat :=
  let c0_i32_4110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4109 : BitVec 32 := 1#32
  let v3856 : BitVec 32 := Scalar.muli v5 c1_i32_4109
  let v3857 : BitVec 32 := Scalar.addi c0_i32_4110 v3856
  v3857.toNat
def k0_dev160 (d0 : Dev nD) : Nat :=
  let c0_i32_4121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4120 : BitVec 32 := 1#32
  let v3860 : BitVec 32 := Scalar.muli v7 c1_i32_4120
  let v3861 : BitVec 32 := Scalar.addi c0_i32_4121 v3860
  v3861.toNat
def k0_dev161 (d0 : Dev nD) : Nat :=
  let c0_i32_4163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4162 : BitVec 32 := 1#32
  let v3903 : BitVec 32 := Scalar.muli v7 c1_i32_4162
  let v3904 : BitVec 32 := Scalar.addi c0_i32_4163 v3903
  v3904.toNat
def k0_dev162 (d0 : Dev nD) : Nat :=
  let c0_i32_4174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4173 : BitVec 32 := 1#32
  let v3907 : BitVec 32 := Scalar.muli v5 c1_i32_4173
  let v3908 : BitVec 32 := Scalar.addi c0_i32_4174 v3907
  v3908.toNat
def k0_dev163 (d0 : Dev nD) : Nat :=
  let c0_i32_4216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4215 : BitVec 32 := 1#32
  let v3950 : BitVec 32 := Scalar.muli v5 c1_i32_4215
  let v3951 : BitVec 32 := Scalar.addi c0_i32_4216 v3950
  v3951.toNat
def k0_dev164 (d0 : Dev nD) : Nat :=
  let c0_i32_4227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4226 : BitVec 32 := 1#32
  let v3954 : BitVec 32 := Scalar.muli v7 c1_i32_4226
  let v3955 : BitVec 32 := Scalar.addi c0_i32_4227 v3954
  v3955.toNat
def k0_dev165 (d0 : Dev nD) : Nat :=
  let c0_i32_4269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4268 : BitVec 32 := 1#32
  let v3997 : BitVec 32 := Scalar.muli v7 c1_i32_4268
  let v3998 : BitVec 32 := Scalar.addi c0_i32_4269 v3997
  v3998.toNat
def k0_dev166 (d0 : Dev nD) : Nat :=
  let c0_i32_4280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4279 : BitVec 32 := 1#32
  let v4001 : BitVec 32 := Scalar.muli v5 c1_i32_4279
  let v4002 : BitVec 32 := Scalar.addi c0_i32_4280 v4001
  v4002.toNat
def k0_dev167 (d0 : Dev nD) : Nat :=
  let c0_i32_4322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4321 : BitVec 32 := 1#32
  let v4044 : BitVec 32 := Scalar.muli v5 c1_i32_4321
  let v4045 : BitVec 32 := Scalar.addi c0_i32_4322 v4044
  v4045.toNat
def k0_dev168 (d0 : Dev nD) : Nat :=
  let c0_i32_4333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4332 : BitVec 32 := 1#32
  let v4048 : BitVec 32 := Scalar.muli v7 c1_i32_4332
  let v4049 : BitVec 32 := Scalar.addi c0_i32_4333 v4048
  v4049.toNat
def k0_dev169 (d0 : Dev nD) : Nat :=
  let c0_i32_4375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4374 : BitVec 32 := 1#32
  let v4091 : BitVec 32 := Scalar.muli v7 c1_i32_4374
  let v4092 : BitVec 32 := Scalar.addi c0_i32_4375 v4091
  v4092.toNat
def k0_dev170 (d0 : Dev nD) : Nat :=
  let c0_i32_4386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4385 : BitVec 32 := 1#32
  let v4095 : BitVec 32 := Scalar.muli v5 c1_i32_4385
  let v4096 : BitVec 32 := Scalar.addi c0_i32_4386 v4095
  v4096.toNat
def k0_dev171 (d0 : Dev nD) : Nat :=
  let c0_i32_4428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4427 : BitVec 32 := 1#32
  let v4138 : BitVec 32 := Scalar.muli v5 c1_i32_4427
  let v4139 : BitVec 32 := Scalar.addi c0_i32_4428 v4138
  v4139.toNat
def k0_dev172 (d0 : Dev nD) : Nat :=
  let c0_i32_4439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4438 : BitVec 32 := 1#32
  let v4142 : BitVec 32 := Scalar.muli v7 c1_i32_4438
  let v4143 : BitVec 32 := Scalar.addi c0_i32_4439 v4142
  v4143.toNat
def k0_dev173 (d0 : Dev nD) : Nat :=
  let c0_i32_4481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4480 : BitVec 32 := 1#32
  let v4185 : BitVec 32 := Scalar.muli v7 c1_i32_4480
  let v4186 : BitVec 32 := Scalar.addi c0_i32_4481 v4185
  v4186.toNat
def k0_dev174 (d0 : Dev nD) : Nat :=
  let c0_i32_4492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4491 : BitVec 32 := 1#32
  let v4189 : BitVec 32 := Scalar.muli v5 c1_i32_4491
  let v4190 : BitVec 32 := Scalar.addi c0_i32_4492 v4189
  v4190.toNat
def k0_dev175 (d0 : Dev nD) : Nat :=
  let c0_i32_4534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4533 : BitVec 32 := 1#32
  let v4232 : BitVec 32 := Scalar.muli v5 c1_i32_4533
  let v4233 : BitVec 32 := Scalar.addi c0_i32_4534 v4232
  v4233.toNat
def k0_dev176 (d0 : Dev nD) : Nat :=
  let c0_i32_4545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4544 : BitVec 32 := 1#32
  let v4236 : BitVec 32 := Scalar.muli v7 c1_i32_4544
  let v4237 : BitVec 32 := Scalar.addi c0_i32_4545 v4236
  v4237.toNat
def k0_dev177 (d0 : Dev nD) : Nat :=
  let c0_i32_4587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4586 : BitVec 32 := 1#32
  let v4279 : BitVec 32 := Scalar.muli v7 c1_i32_4586
  let v4280 : BitVec 32 := Scalar.addi c0_i32_4587 v4279
  v4280.toNat
def k0_dev178 (d0 : Dev nD) : Nat :=
  let c0_i32_4598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4597 : BitVec 32 := 1#32
  let v4283 : BitVec 32 := Scalar.muli v5 c1_i32_4597
  let v4284 : BitVec 32 := Scalar.addi c0_i32_4598 v4283
  v4284.toNat
def k0_dev179 (d0 : Dev nD) : Nat :=
  let c0_i32_4651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4650 : BitVec 32 := 1#32
  let v4349 : BitVec 32 := Scalar.muli v5 c1_i32_4650
  let v4350 : BitVec 32 := Scalar.addi c0_i32_4651 v4349
  v4350.toNat
def k0_dev180 (d0 : Dev nD) : Nat :=
  let c0_i32_4662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4661 : BitVec 32 := 1#32
  let v4353 : BitVec 32 := Scalar.muli v7 c1_i32_4661
  let v4354 : BitVec 32 := Scalar.addi c0_i32_4662 v4353
  v4354.toNat
def k0_dev181 (d0 : Dev nD) : Nat :=
  let c0_i32_4704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4703 : BitVec 32 := 1#32
  let v4396 : BitVec 32 := Scalar.muli v7 c1_i32_4703
  let v4397 : BitVec 32 := Scalar.addi c0_i32_4704 v4396
  v4397.toNat
def k0_dev182 (d0 : Dev nD) : Nat :=
  let c0_i32_4715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4714 : BitVec 32 := 1#32
  let v4400 : BitVec 32 := Scalar.muli v5 c1_i32_4714
  let v4401 : BitVec 32 := Scalar.addi c0_i32_4715 v4400
  v4401.toNat
def k0_dev183 (d0 : Dev nD) : Nat :=
  let c0_i32_4757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4756 : BitVec 32 := 1#32
  let v4443 : BitVec 32 := Scalar.muli v5 c1_i32_4756
  let v4444 : BitVec 32 := Scalar.addi c0_i32_4757 v4443
  v4444.toNat
def k0_dev184 (d0 : Dev nD) : Nat :=
  let c0_i32_4768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4767 : BitVec 32 := 1#32
  let v4447 : BitVec 32 := Scalar.muli v7 c1_i32_4767
  let v4448 : BitVec 32 := Scalar.addi c0_i32_4768 v4447
  v4448.toNat
def k0_dev185 (d0 : Dev nD) : Nat :=
  let c0_i32_4810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4809 : BitVec 32 := 1#32
  let v4490 : BitVec 32 := Scalar.muli v7 c1_i32_4809
  let v4491 : BitVec 32 := Scalar.addi c0_i32_4810 v4490
  v4491.toNat
def k0_dev186 (d0 : Dev nD) : Nat :=
  let c0_i32_4821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4820 : BitVec 32 := 1#32
  let v4494 : BitVec 32 := Scalar.muli v5 c1_i32_4820
  let v4495 : BitVec 32 := Scalar.addi c0_i32_4821 v4494
  v4495.toNat
def k0_dev187 (d0 : Dev nD) : Nat :=
  let c0_i32_4863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4862 : BitVec 32 := 1#32
  let v4537 : BitVec 32 := Scalar.muli v5 c1_i32_4862
  let v4538 : BitVec 32 := Scalar.addi c0_i32_4863 v4537
  v4538.toNat
def k0_dev188 (d0 : Dev nD) : Nat :=
  let c0_i32_4874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4873 : BitVec 32 := 1#32
  let v4541 : BitVec 32 := Scalar.muli v7 c1_i32_4873
  let v4542 : BitVec 32 := Scalar.addi c0_i32_4874 v4541
  v4542.toNat
def k0_dev189 (d0 : Dev nD) : Nat :=
  let c0_i32_4916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4915 : BitVec 32 := 1#32
  let v4584 : BitVec 32 := Scalar.muli v7 c1_i32_4915
  let v4585 : BitVec 32 := Scalar.addi c0_i32_4916 v4584
  v4585.toNat
def k0_dev190 (d0 : Dev nD) : Nat :=
  let c0_i32_4927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4926 : BitVec 32 := 1#32
  let v4588 : BitVec 32 := Scalar.muli v5 c1_i32_4926
  let v4589 : BitVec 32 := Scalar.addi c0_i32_4927 v4588
  v4589.toNat
def k0_dev191 (d0 : Dev nD) : Nat :=
  let c0_i32_4969 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4968 : BitVec 32 := 1#32
  let v4631 : BitVec 32 := Scalar.muli v5 c1_i32_4968
  let v4632 : BitVec 32 := Scalar.addi c0_i32_4969 v4631
  v4632.toNat
def k0_dev192 (d0 : Dev nD) : Nat :=
  let c0_i32_4980 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4979 : BitVec 32 := 1#32
  let v4635 : BitVec 32 := Scalar.muli v7 c1_i32_4979
  let v4636 : BitVec 32 := Scalar.addi c0_i32_4980 v4635
  v4636.toNat
def k0_dev193 (d0 : Dev nD) : Nat :=
  let c0_i32_5022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5021 : BitVec 32 := 1#32
  let v4678 : BitVec 32 := Scalar.muli v7 c1_i32_5021
  let v4679 : BitVec 32 := Scalar.addi c0_i32_5022 v4678
  v4679.toNat
def k0_dev194 (d0 : Dev nD) : Nat :=
  let c0_i32_5033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5032 : BitVec 32 := 1#32
  let v4682 : BitVec 32 := Scalar.muli v5 c1_i32_5032
  let v4683 : BitVec 32 := Scalar.addi c0_i32_5033 v4682
  v4683.toNat
def k0_dev195 (d0 : Dev nD) : Nat :=
  let c0_i32_5075 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5074 : BitVec 32 := 1#32
  let v4725 : BitVec 32 := Scalar.muli v5 c1_i32_5074
  let v4726 : BitVec 32 := Scalar.addi c0_i32_5075 v4725
  v4726.toNat
def k0_dev196 (d0 : Dev nD) : Nat :=
  let c0_i32_5086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5085 : BitVec 32 := 1#32
  let v4729 : BitVec 32 := Scalar.muli v7 c1_i32_5085
  let v4730 : BitVec 32 := Scalar.addi c0_i32_5086 v4729
  v4730.toNat
def k0_dev197 (d0 : Dev nD) : Nat :=
  let c0_i32_5128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5127 : BitVec 32 := 1#32
  let v4772 : BitVec 32 := Scalar.muli v7 c1_i32_5127
  let v4773 : BitVec 32 := Scalar.addi c0_i32_5128 v4772
  v4773.toNat
def k0_dev198 (d0 : Dev nD) : Nat :=
  let c0_i32_5139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5138 : BitVec 32 := 1#32
  let v4776 : BitVec 32 := Scalar.muli v5 c1_i32_5138
  let v4777 : BitVec 32 := Scalar.addi c0_i32_5139 v4776
  v4777.toNat
def k0_dev199 (d0 : Dev nD) : Nat :=
  let c0_i32_5181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5180 : BitVec 32 := 1#32
  let v4819 : BitVec 32 := Scalar.muli v5 c1_i32_5180
  let v4820 : BitVec 32 := Scalar.addi c0_i32_5181 v4819
  v4820.toNat
def k0_dev200 (d0 : Dev nD) : Nat :=
  let c0_i32_5192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5191 : BitVec 32 := 1#32
  let v4823 : BitVec 32 := Scalar.muli v7 c1_i32_5191
  let v4824 : BitVec 32 := Scalar.addi c0_i32_5192 v4823
  v4824.toNat
def k0_dev201 (d0 : Dev nD) : Nat :=
  let c0_i32_5234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5233 : BitVec 32 := 1#32
  let v4866 : BitVec 32 := Scalar.muli v7 c1_i32_5233
  let v4867 : BitVec 32 := Scalar.addi c0_i32_5234 v4866
  v4867.toNat
def k0_dev202 (d0 : Dev nD) : Nat :=
  let c0_i32_5245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5244 : BitVec 32 := 1#32
  let v4870 : BitVec 32 := Scalar.muli v5 c1_i32_5244
  let v4871 : BitVec 32 := Scalar.addi c0_i32_5245 v4870
  v4871.toNat
def k0_dev203 (d0 : Dev nD) : Nat :=
  let c0_i32_5287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5286 : BitVec 32 := 1#32
  let v4913 : BitVec 32 := Scalar.muli v5 c1_i32_5286
  let v4914 : BitVec 32 := Scalar.addi c0_i32_5287 v4913
  v4914.toNat
def k0_dev204 (d0 : Dev nD) : Nat :=
  let c0_i32_5298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5297 : BitVec 32 := 1#32
  let v4917 : BitVec 32 := Scalar.muli v7 c1_i32_5297
  let v4918 : BitVec 32 := Scalar.addi c0_i32_5298 v4917
  v4918.toNat
def k0_dev205 (d0 : Dev nD) : Nat :=
  let c0_i32_5340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5339 : BitVec 32 := 1#32
  let v4960 : BitVec 32 := Scalar.muli v7 c1_i32_5339
  let v4961 : BitVec 32 := Scalar.addi c0_i32_5340 v4960
  v4961.toNat
def k0_dev206 (d0 : Dev nD) : Nat :=
  let c0_i32_5351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5350 : BitVec 32 := 1#32
  let v4964 : BitVec 32 := Scalar.muli v5 c1_i32_5350
  let v4965 : BitVec 32 := Scalar.addi c0_i32_5351 v4964
  v4965.toNat
def k0_dev207 (d0 : Dev nD) : Nat :=
  let c0_i32_5393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5392 : BitVec 32 := 1#32
  let v5007 : BitVec 32 := Scalar.muli v5 c1_i32_5392
  let v5008 : BitVec 32 := Scalar.addi c0_i32_5393 v5007
  v5008.toNat
def k0_dev208 (d0 : Dev nD) : Nat :=
  let c0_i32_5404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5403 : BitVec 32 := 1#32
  let v5011 : BitVec 32 := Scalar.muli v7 c1_i32_5403
  let v5012 : BitVec 32 := Scalar.addi c0_i32_5404 v5011
  v5012.toNat
def k0_dev209 (d0 : Dev nD) : Nat :=
  let c0_i32_5446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5445 : BitVec 32 := 1#32
  let v5054 : BitVec 32 := Scalar.muli v7 c1_i32_5445
  let v5055 : BitVec 32 := Scalar.addi c0_i32_5446 v5054
  v5055.toNat
def k0_dev210 (d0 : Dev nD) : Nat :=
  let c0_i32_5457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5456 : BitVec 32 := 1#32
  let v5058 : BitVec 32 := Scalar.muli v5 c1_i32_5456
  let v5059 : BitVec 32 := Scalar.addi c0_i32_5457 v5058
  v5059.toNat
def k0_dev211 (d0 : Dev nD) : Nat :=
  let c0_i32_6041 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6036 : BitVec 32 := 1#32
  let v5687 : BitVec 32 := Scalar.addi v2 c1_i32_6036
  let c8_i32_6037 : BitVec 32 := 8#32
  let v5688 : BitVec 32 := Scalar.remsi v5687 c8_i32_6037
  let c1_i32_6040 : BitVec 32 := 1#32
  let v5689 : BitVec 32 := Scalar.muli v5688 c1_i32_6040
  let v5690 : BitVec 32 := Scalar.addi c0_i32_6041 v5689
  v5690.toNat
def k0_dev212 (d0 : Dev nD) : Nat :=
  let c0_i32_6051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_6046 : BitVec 32 := 2#32
  let v5697 : BitVec 32 := Scalar.addi v2 c2_i32_6046
  let c8_i32_6047 : BitVec 32 := 8#32
  let v5698 : BitVec 32 := Scalar.remsi v5697 c8_i32_6047
  let c1_i32_6050 : BitVec 32 := 1#32
  let v5699 : BitVec 32 := Scalar.muli v5698 c1_i32_6050
  let v5700 : BitVec 32 := Scalar.addi c0_i32_6051 v5699
  v5700.toNat
def k0_dev213 (d0 : Dev nD) : Nat :=
  let c0_i32_6061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6056 : BitVec 32 := 3#32
  let v5707 : BitVec 32 := Scalar.addi v2 c3_i32_6056
  let c8_i32_6057 : BitVec 32 := 8#32
  let v5708 : BitVec 32 := Scalar.remsi v5707 c8_i32_6057
  let c1_i32_6060 : BitVec 32 := 1#32
  let v5709 : BitVec 32 := Scalar.muli v5708 c1_i32_6060
  let v5710 : BitVec 32 := Scalar.addi c0_i32_6061 v5709
  v5710.toNat
def k0_dev214 (d0 : Dev nD) : Nat :=
  let c0_i32_6071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6066 : BitVec 32 := 4#32
  let v5717 : BitVec 32 := Scalar.addi v2 c4_i32_6066
  let c8_i32_6067 : BitVec 32 := 8#32
  let v5718 : BitVec 32 := Scalar.remsi v5717 c8_i32_6067
  let c1_i32_6070 : BitVec 32 := 1#32
  let v5719 : BitVec 32 := Scalar.muli v5718 c1_i32_6070
  let v5720 : BitVec 32 := Scalar.addi c0_i32_6071 v5719
  v5720.toNat
def k0_dev215 (d0 : Dev nD) : Nat :=
  let c0_i32_6081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_6076 : BitVec 32 := 5#32
  let v5727 : BitVec 32 := Scalar.addi v2 c5_i32_6076
  let c8_i32_6077 : BitVec 32 := 8#32
  let v5728 : BitVec 32 := Scalar.remsi v5727 c8_i32_6077
  let c1_i32_6080 : BitVec 32 := 1#32
  let v5729 : BitVec 32 := Scalar.muli v5728 c1_i32_6080
  let v5730 : BitVec 32 := Scalar.addi c0_i32_6081 v5729
  v5730.toNat
def k0_dev216 (d0 : Dev nD) : Nat :=
  let c0_i32_6091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_6086 : BitVec 32 := 6#32
  let v5737 : BitVec 32 := Scalar.addi v2 c6_i32_6086
  let c8_i32_6087 : BitVec 32 := 8#32
  let v5738 : BitVec 32 := Scalar.remsi v5737 c8_i32_6087
  let c1_i32_6090 : BitVec 32 := 1#32
  let v5739 : BitVec 32 := Scalar.muli v5738 c1_i32_6090
  let v5740 : BitVec 32 := Scalar.addi c0_i32_6091 v5739
  v5740.toNat
def k0_dev217 (d0 : Dev nD) : Nat :=
  let c0_i32_6101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6096 : BitVec 32 := 7#32
  let v5747 : BitVec 32 := Scalar.addi v2 c7_i32_6096
  let c8_i32_6097 : BitVec 32 := 8#32
  let v5748 : BitVec 32 := Scalar.remsi v5747 c8_i32_6097
  let c1_i32_6100 : BitVec 32 := 1#32
  let v5749 : BitVec 32 := Scalar.muli v5748 c1_i32_6100
  let v5750 : BitVec 32 := Scalar.addi c0_i32_6101 v5749
  v5750.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Program.lean ====
/- The kernel body written once over its regularities: the direction of a ring, the column chunk, the
   step and the slot are parameters, and the printed body is the unrolling of these loops. -/
module

public import proofs.«01_k».proof.Proof.Gen.KernelIdeal.Points
public import Idealize.ShloMosaic.Lib.Pipeline.Regions

@[expose] public section

noncomputable section

namespace Cert.KernelIdeal.Own

open Idealize.ShloMosaic Idealize.ShloMosaic.TcCoe
open Idealize.SL Idealize.SL.Sem
open Cert.KernelIdeal Cert.KernelIdeal.Gen

variable {F : FTy → Type} [FloatOps F]

/-- The body's programs. -/
abbrev BP (F : FTy → Type) [FloatOps F] : Type → Type 1 := Prog (TpuEff nD τ sig (Elt F) Λ₀ .tc)

/-! ## The operands -/

/-- The columns of `x` the device holds. -/
abbrev xM : Memref sig .tc .vmem S4096x512 .f32 := Memref.whole cc0_stg0_0
/-- The rows of `w` the device holds. -/
abbrev wM : Memref sig .tc .vmem S512x8192 .f32 := Memref.whole cc0_stg1_0
/-- The device's rows of the result. -/
abbrev oM : Memref sig .tc .hbm S512x8192 .f32 := Memref.whole main_v1
/-- The travelling partial sums: `false` to the right neighbour, `true` to the left. -/
abbrev commM : Bool → Memref sig .tc .vmem S2x512x4096 .f32
  | false => Memref.whole cc0_scratch0
  | true => Memref.whole cc0_scratch1
/-- One row per distance: row `k` is for the greatest magnitude of device `c - k`. -/
abbrev aM : Memref sig .tc .vmem S8x128 .f32 := Memref.whole cc0_scratch2

/-- The send semaphore of direction `d`, slot `σ`, chunk `j`. -/
abbrev sendS (d : Bool) (σ : Fin 2) (j : Fin 8) : DmaSem sig :=
  SemArray.sem (d := S_.size) (((match d with | false => cc0_scratch3 | true => cc0_scratch5 : DmaSems sig S2x8).slice
    (Rect.unit (s := S2x8) ![σ.val, j.val] S1x1.size (by intro i; fin_cases i <;> simp [Shape.size] <;> omega))).squeeze S_ squeezes_S1x1_S_)
/-- The receive semaphore of direction `d`, slot `σ`, chunk `j`. -/
abbrev recvS (d : Bool) (σ : Fin 2) (j : Fin 8) : DmaSem sig :=
  SemArray.sem (d := S_.size) (((match d with | false => cc0_scratch4 | true => cc0_scratch6 : DmaSems sig S2x8).slice
    (Rect.unit (s := S2x8) ![σ.val, j.val] S1x1.size (by intro i; fin_cases i <;> simp [Shape.size] <;> omega))).squeeze S_ squeezes_S1x1_S_)
/-- The semaphore that says the down neighbour's slot of chunk `j` is free again. -/
abbrev credS (d : Bool) (j : Fin 8) : Sem sig :=
  SemArray.sem (d := S_.size) (((match d with | false => cc0_scratch9 | true => cc0_scratch10 : Sems sig S8).slice
    (Rect.unit (s := S8) ![j.val] S1.size (by intro i; fin_cases i; simp [Shape.size]; omega))).squeeze S_ squeezes_S1_S_)
/-- The send semaphore of the row sent `k` devices on. -/
abbrev asndS (k : Fin 8) : DmaSem sig :=
  SemArray.sem (d := S_.size) ((cc0_scratch7.slice
    (Rect.unit (s := S8) ![k.val] S1.size (by intro i; fin_cases i; simp [Shape.size]; omega))).squeeze S_ squeezes_S1_S_)
/-- The receive semaphore of the row sent `k` devices on. -/
abbrev arcvS (k : Fin 8) : DmaSem sig :=
  SemArray.sem (d := S_.size) ((cc0_scratch8.slice
    (Rect.unit (s := S8) ![k.val] S1.size (by intro i; fin_cases i; simp [Shape.size]; omega))).squeeze S_ squeezes_S1_S_)
/-- The semaphore of the result's chunk `j` of half `d`. -/
abbrev outS (d : Bool) (j : Fin 8) : DmaSem sig :=
  SemArray.sem (d := S_.size) ((cc0_scratch11.slice
    (Rect.unit (s := S16) ![d.toNat * 8 + j.val] S1.size
      (by intro i; fin_cases i; cases d <;> simp [Shape.size] <;> omega))).squeeze S_ squeezes_S1_S_)
/-- The barrier semaphore. -/
abbrev barS : Sem sig := (SemArray.scalar (sig.barrier 0 rfl) : Sems sig S_).sem

theorem wR_inb (d : Bool) (j : Fin 8) : ∀ i, (![0, d.toNat * 4096 + 512 * j.val] : Fin 2 → ℕ) i + S512x512.size i ≤ S512x8192.size i := by
  intro i; fin_cases i <;> cases d <;> simp [Shape.size] <;> omega
/-- Chunk `j` of half `d` of the columns. -/
abbrev wR (d : Bool) (j : Fin 8) : Rect S512x8192 :=
  Rect.unit (s := S512x8192) ![0, d.toNat * 4096 + 512 * j.val] S512x512.size (wR_inb d j)

theorem chR_inb (σ : Fin 2) (j : Fin 8) : ∀ i, (![σ.val, 0, 512 * j.val] : Fin 3 → ℕ) i + S1x512x512.size i ≤ S2x512x4096.size i := by
  intro i; fin_cases i <;> simp [Shape.size] <;> omega
/-- Chunk `j` of slot `σ`. -/
abbrev chR (σ : Fin 2) (j : Fin 8) : Rect S2x512x4096 :=
  Rect.unit (s := S2x512x4096) ![σ.val, 0, 512 * j.val] S1x512x512.size (chR_inb σ j)
/-- Chunk `j` of slot `σ` of direction `d`, as one matrix. -/
abbrev chM (d : Bool) (σ : Fin 2) (j : Fin 8) : Memref sig .tc .vmem S512x512 .f32 :=
  ((commM d).slice (chR σ j) (fun _ => rfl)).squeeze S512x512 squeezes_S1x512x512_S512x512

theorem rowR_inb (k : Fin 8) : ∀ i, (![k.val, 0] : Fin 2 → ℕ) i + S1x128.size i ≤ S8x128.size i := by
  intro i; fin_cases i <;> simp [Shape.size]; omega
abbrev rowR (k : Fin 8) : Rect S8x128 := Rect.unit (s := S8x128) ![k.val, 0] S1x128.size (rowR_inb k)
/-- Row `k` of the greatest magnitudes. -/
abbrev rowM (k : Fin 8) : Memref sig .tc .vmem S1x128 .f32 := aM.slice (rowR k) (fun _ => rfl)

/-- The result's chunk. -/
abbrev outM (d : Bool) (j : Fin 8) : Memref sig .tc .hbm S512x512 .f32 := oM.slice (wR d j) (fun _ => rfl)

/-- The slot step `s` sends from. -/
abbrev sl (s : Fin 7) : Fin 2 := ⟨s.val % 2, Nat.mod_lt _ (by decide)⟩
/-- The slot step `s` fills. -/
abbrev ns (s : Fin 7) : Fin 2 := ⟨(s.val + 1) % 2, Nat.mod_lt _ (by decide)⟩

/-- The neighbour the partial sums of direction `d` go to. -/
abbrev dn (c : Dev nD) : Bool → Dev nD
  | false => ⟨k0_dev2 c, k0_dev2_lt c⟩
  | true => ⟨k0_dev1 c, k0_dev1_lt c⟩
/-- The neighbour they come from. -/
abbrev up (c : Dev nD) : Bool → Dev nD
  | false => ⟨k0_dev1 c, k0_dev1_lt c⟩
  | true => ⟨k0_dev2 c, k0_dev2_lt c⟩

/-- The device `k` on. -/
abbrev tgt (c : Dev nD) : Fin 8 → Dev nD
  | 1 => ⟨k0_dev211 c, k0_dev211_lt c⟩
  | 2 => ⟨k0_dev212 c, k0_dev212_lt c⟩
  | 3 => ⟨k0_dev213 c, k0_dev213_lt c⟩
  | 4 => ⟨k0_dev214 c, k0_dev214_lt c⟩
  | 5 => ⟨k0_dev215 c, k0_dev215_lt c⟩
  | 6 => ⟨k0_dev216 c, k0_dev216_lt c⟩
  | 7 => ⟨k0_dev217 c, k0_dev217_lt c⟩
  | _ => c

/-- The rows of `x` the partial sums start with. -/
abbrev xR0 (c : Dev nD) : Bool → Rect S4096x512
  | false => Rect.unit (s := S4096x512) (k0_off1 c) S512x512.size (k0_off1_inb c)
  | true => Rect.unit (s := S4096x512) (k0_off2 c) S512x512.size (k0_off2_inb c)
/-- The rows of `x` step `s` adds. -/
abbrev xR (c : Dev nD) (s : Fin 7) : Bool → Rect S4096x512
  | false => Rect.unit (s := S4096x512) (k0_off3 c (BitVec.ofNat 32 s.val)) S512x512.size (k0_off3_inb c s)
  | true => Rect.unit (s := S4096x512) (k0_off4 c (BitVec.ofNat 32 s.val)) S512x512.size (k0_off4_inb c s)

/-! ## The arithmetic -/

/-- A loaded block rounded to sixteen bits. -/
abbrev hi (v : Vec F S512x512 .f32) : FVec F S512x512 .bf16 :=
  truncf .bf16 (shapeCast S512x512 v shapeCasts_S512x512_S512x512) bitsLt_bf16_f32
/-- What the rounding dropped, rounded. -/
abbrev lo (v : Vec F S512x512 .f32) : FVec F S512x512 .bf16 :=
  truncf .bf16 (subf (shapeCast S512x512 v shapeCasts_S512x512_S512x512) (extf .f32 (hi v) bitsLt_bf16_f32)) bitsLt_bf16_f32

abbrev mm (a b : FVec F S512x512 .bf16) : FVec F S512x512 .f32 :=
  matmul dot_S512x512_S512x512_S512x512_1_0_0_1_n_n none a b (constant S512x512 .f32 0x00000000#32)

/-- The product of two blocks from three products of their halves. -/
abbrev dot3 (x w : Vec F S512x512 .f32) : FVec F S512x512 .f32 :=
  addf (addf (mm (hi x) (hi w)) (mm (hi x) (lo w))) (mm (lo x) (hi w))

abbrev to3 (v : FVec F S512x512 .f32) : FVec F S1x512x512 .f32 := shapeCast S1x512x512 v shapeCasts_S512x512_S1x512x512
abbrev to2 (v : Vec F S1x512x512 .f32) : FVec F S512x512 .f32 := shapeCast S512x512 v shapeCasts_S1x512x512_S512x512

/-- The greatest of `a` and the magnitudes of `y`. -/
abbrev amaxStep (a : F .f32) (y : FVec F S512x512 .f32) : F .f32 :=
  Scalar.maximumf a (extractAt ![0, 0, 0] (shapeCast S1x1x1
    (multiReduction .maximumf [1, 2] S1 (to3 (absf y)) 0xFF800000#32 reduces_S1x512x512_S1 (.inl rfl) rfl) shapeCasts_S1_S1x1x1) inpos_S1x1x1_p0_0_0)

/-- The greatest of the collected rows. -/
abbrev gmaxOf (v : Vec F S8x128 .f32) : F .f32 :=
  extractAt ![0, 0, 0] (shapeCast S1x1x1 (multiReduction .maximumf [1, 2] S1
    (shapeCast S1x8x128 v shapeCasts_S8x128_S1x8x128) 0xFF800000#32 reduces_S1x8x128_S1 (.inl rfl) rfl) shapeCasts_S1_S1x1x1) inpos_S1x1x1_p0_0_0

/-- A block quantised at scale `g / 448` and scaled back. -/
abbrev quant (g : F .f32) (y : FVec F S512x512 .f32) : FVec F S512x512 .f32 :=
  mulf (extf .f32 (truncf .fp8e4m3 (minimumf (broadcast S512x512 (Scalar.ofBits .f32 0x43E00000#32))
      (maximumf (broadcast S512x512 (Scalar.ofBits .f32 0xC3E00000#32))
        (mulf y (broadcast S512x512 (Scalar.divf (Scalar.ofBits .f32 0x43E00000#32) g))))) bitsLt_fp8e4m3_f32) bitsLt_fp8e4m3_f32)
    (broadcast S512x512 (Scalar.divf g (Scalar.ofBits .f32 0x43E00000#32)))

abbrev rowOf (a : F .f32) : FVec F S1x128 .f32 := shapeCast S1x128 (broadcast S1x128 a) shapeCasts_S1x128_S1x128

/-! ## The operations -/

abbrev ldX (r : Rect S4096x512) (h : S512x512 = r.shape := by rfl) : BP F (Vec F r.shape .f32) :=
  Prog.lift (.load xM r.toLoadRect (View.loadsAt_vmem (h ▸ h_S512x512)))
abbrev ldW (d : Bool) (j : Fin 8) : BP F (Vec F S512x512 .f32) :=
  Prog.lift (.load wM (wR d j).toLoadRect (View.loadsAt_vmem h_S512x512))
abbrev ldC (d : Bool) (σ : Fin 2) (j : Fin 8) : BP F (Vec F S1x512x512 .f32) :=
  Prog.lift (.load (commM d) (chR σ j).toLoadRect (View.loadsAt_vmem h_S1x512x512))
abbrev stC (d : Bool) (σ : Fin 2) (j : Fin 8) (v : FVec F S512x512 .f32) : BP F PUnit :=
  Prog.lift (.store (commM d) (chR σ j) (to3 v) Finset.univ (View.stores_vmem_bits_univ h_S1x512x512 rfl) (.inl rfl))
/-- Send chunk `j` of slot `σ` to slot `σ'` of the down neighbour. -/
abbrev cpC (c : Dev nD) (d : Bool) (σ σ' : Fin 2) (j : Fin 8) : BP F PUnit :=
  Prog.lift (.enqueueDma (chM d σ j) (.remote (Dev.tc (dn c d)) (chM d σ' j) (.dma (sendS d σ j))) (.dma (recvS d σ' j))
    ((View.wordExact_bits rfl).reshape _ _) ((View.wordExact_bits rfl).reshape _ _) ⟨⟨rfl, Or.inl rfl⟩, trivial⟩)
abbrev wtC (sm : DmaSem sig) (d : Bool) (σ σ' : Fin 2) (j : Fin 8) : BP F PUnit :=
  Prog.lift (.waitDma2 sm (chM d σ j) (chM d σ' j) ((View.wordExact_bits rfl).reshape _ _) ((View.wordExact_bits rfl).reshape _ _))

/-! ## The loops -/

/-- Run `f` over a list in order. -/
@[reducible] def seqL {α : Type} : List α → (α → BP F PUnit) → BP F PUnit
  | [], _ => pure ⟨⟩
  | a :: l, f => do f a; seqL l f

/-- Run `f` over a list in order, passing a value on. -/
@[reducible] def foldL {α β : Type} : List α → β → (β → α → BP F β) → BP F β
  | [], b, _ => pure b
  | a :: l, b, f => do let b' ← f b a; foldL l b' f

abbrev js : List (Fin 8) := [0, 1, 2, 3, 4, 5, 6, 7]
abbrev ks : List (Fin 8) := [1, 2, 3, 4, 5, 6, 7]

/-- The first partial product of a chunk, sent on. -/
def initOp (c : Dev nD) (x : Vec F S512x512 .f32) (d : Bool) (j : Fin 8) : BP F PUnit := do
  let wv ← ldW d j
  let _ ← ldC d 0 j
  stC d 0 j (dot3 x wv)
  cpC c d 0 1 j

/-- Step `s` of a chunk: add this device's product to what arrived and send it on. -/
def midOp (c : Dev nD) (s : Fin 7) (x : Vec F S512x512 .f32) (d : Bool) (j : Fin 8) : BP F PUnit := do
  let wv ← ldW d j
  wtC (recvS d (ns s) j) d (sl s) (ns s) j
  let a ← ldC d (ns s) j
  let _ ← ldC d (ns s) j
  stC d (ns s) j (addf (to2 a) (dot3 x wv))
  wtC (sendS d (sl s) j) d (ns s) (sl s) j
  semSignalWord (up c d) (credS d j) 1#32
  semWaitWord (credS d j) 1#32
  cpC c d (ns s) (sl s) j

/-- The last step of a chunk: its sum is complete and stays here. -/
def lastOp (c : Dev nD) (x : Vec F S512x512 .f32) (d : Bool) (am : F .f32) (j : Fin 8) : BP F (F .f32) := do
  let wv ← ldW d j
  wtC (recvS d 1 j) d 0 1 j
  wtC (sendS d 0 j) d 1 0 j
  let a ← ldC d 1 j
  let _ ← ldC d 0 j
  stC d 0 j (addf (to2 a) (dot3 x wv))
  pure (amaxStep am (addf (to2 a) (dot3 x wv)))

def initRound (c : Dev nD) : BP F PUnit := do
  let xf ← ldX (xR0 c false)
  let xr ← ldX (xR0 c true)
  seqL js fun j => do initOp c xf false j; initOp c xr true j

def midRound (c : Dev nD) (s : Fin 7) : BP F PUnit := do
  let xf ← ldX (xR c s false)
  let xr ← ldX (xR c s true)
  seqL js fun j => do midOp c s xf false j; midOp c s xr true j

def lastRound (c : Dev nD) : BP F (F .f32) := do
  let xf ← ldX (xR c 6 false)
  let xr ← ldX (xR c 6 true)
  foldL js (Scalar.ofBits .f32 0x00000000#32) fun am j => do
    let am ← lastOp c xf false am j
    lastOp c xr true am j

/-- Every device tells every other its greatest magnitude. -/
def amaxRound (c : Dev nD) (am : F .f32) : BP F (F .f32) := do
  let _ ← Prog.lift (.load aM (rowR 0).toLoadRect (View.loadsAt_vmem h_S1x128))
  Prog.lift (.store aM (rowR 0) (rowOf am) Finset.univ (View.stores_vmem_bits_univ h_S1x128 rfl) (.inl rfl))
  seqL ks fun k => Prog.lift (.enqueueDma (rowM 0) (.remote (Dev.tc (tgt c k)) (rowM k) (.dma (asndS k))) (.dma (arcvS k))
    (View.wordExact_bits rfl) (View.wordExact_bits rfl) ⟨⟨rfl, Or.inl rfl⟩, trivial⟩)
  seqL ks fun k => Prog.lift (.waitDma2 (asndS k) (rowM k) (rowM 0) (View.wordExact_bits rfl) (View.wordExact_bits rfl))
  seqL ks fun k => Prog.lift (.waitDma2 (arcvS k) (rowM 0) (rowM k) (View.wordExact_bits rfl) (View.wordExact_bits rfl))
  let v ← Prog.lift (.load aM (Rect.unit (s := S8x128) ![0, 0] S8x128.size inb_S8x128_S8x128_0_0).toLoadRect (View.loadsAt_vmem h_S8x128))
  pure (gmaxOf v)

/-- Quantise a chunk and start writing it out. -/
def outOp (g : F .f32) (d : Bool) (j : Fin 8) : BP F PUnit := do
  let y ← ldC d 0 j
  let _ ← ldC d 0 j
  stC d 0 j (quant g (to2 y))
  Prog.lift (.enqueueDma (chM d 0 j) (.here (outM d j)) (.dma (outS d j))
    ((View.wordExact_bits rfl).reshape _ _) (View.wordExact_bits rfl) ⟨Or.inl rfl, trivial⟩)

def outWait (d : Bool) (j : Fin 8) : BP F PUnit :=
  Prog.lift (.waitDma2 (outS d j) (chM d 0 j) (outM d j) ((View.wordExact_bits rfl).reshape _ _) (View.wordExact_bits rfl))

def outRound (g : F .f32) : BP F PUnit := do
  seqL js fun j => outOp g false j
  seqL js fun j => outOp g true j
  seqL js fun j => outWait false j
  seqL js fun j => outWait true j

/-- The whole body. -/
def ownBody : BP F PUnit := do
  let c ← Prog.lift .deviceId
  semSignalWord (up c false) barS 1#32
  semSignalWord (dn c false) barS 1#32
  semWaitWord barS 2#32
  initRound c
  seqL [0, 1, 2, 3, 4, 5] fun s => midRound c s
  let am ← lastRound c
  let g ← amaxRound c am
  outRound g

set_option maxRecDepth 65536 in
set_option maxHeartbeats 0 in
/-- The printed body is the loops'. -/
theorem body_eq (t : Fin cfg0.N) : bodyAt0 (F := F) t = ownBody (F := F) := by
  chain_rfl

end Cert.KernelIdeal.Own

end
-- ==== Proof.Cells.lean ====
/- The semaphore cells of the kernel, what is owed on them, and the order in which it is paid. -/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The ring of devices -/

/-- The device `n` on. -/
def sh (c : Dev nD) (n : ℕ) : Dev nD := ⟨(c.val + n) % 8, Nat.mod_lt _ (by decide)⟩

theorem dn_false (c : Dev nD) : dn c false = sh c 1 := Fin.ext (k0_dev2_eq c)
theorem dn_true (c : Dev nD) : dn c true = sh c 7 := Fin.ext (k0_dev1_eq c)
theorem up_false (c : Dev nD) : up c false = sh c 7 := Fin.ext (k0_dev1_eq c)
theorem up_true (c : Dev nD) : up c true = sh c 1 := Fin.ext (k0_dev2_eq c)

theorem sh_sh (c : Dev nD) (a b : ℕ) : sh (sh c a) b = sh c (a + b) := Fin.ext (by simp [sh, Nat.add_assoc])
theorem sh_zero (c : Dev nD) : sh c 0 = c := Fin.ext (by have : c.val < 8 := c.isLt; simp only [sh]; omega)
theorem sh_eight (c : Dev nD) : sh c 8 = c := Fin.ext (by have : c.val < 8 := c.isLt; simp only [sh]; omega)
theorem sh_add_eight (c : Dev nD) (n : ℕ) : sh c (n + 8) = sh c n := Fin.ext (by simp only [sh]; omega)

theorem up_dn (c : Dev nD) (d : Bool) : up (dn c d) d = c := by
  cases d
  · rw [dn_false, up_false, sh_sh, sh_eight]
  · rw [dn_true, up_true, sh_sh, sh_eight]
theorem dn_up (c : Dev nD) (d : Bool) : dn (up c d) d = c := by
  cases d
  · rw [up_false, dn_false, sh_sh, sh_eight]
  · rw [up_true, dn_true, sh_sh, sh_eight]
theorem up_not (c : Dev nD) (d : Bool) : up c (!d) = dn c d := by cases d <;> rfl

theorem tgt_eq (c : Dev nD) (k : Fin 7) : tgt c k.succ = sh c (k.val + 1) := by
  fin_cases k
  · exact Fin.ext (k0_dev211_eq c)
  · exact Fin.ext (k0_dev212_eq c)
  · exact Fin.ext (k0_dev213_eq c)
  · exact Fin.ext (k0_dev214_eq c)
  · exact Fin.ext (k0_dev215_eq c)
  · exact Fin.ext (k0_dev216_eq c)
  · exact Fin.ext (k0_dev217_eq c)

def ringDn (d : Bool) : Dev nD ≃ Dev nD := ⟨fun c => dn c d, fun c => up c d, fun c => up_dn c d, fun c => dn_up c d⟩
def ringSh (n : Fin 8) : Dev nD ≃ Dev nD :=
  ⟨fun c => sh c n.val, fun c => sh c (8 - n.val), fun c => by show sh (sh c n.val) (8 - n.val) = c; rw [sh_sh, Nat.add_sub_cancel' (by omega), sh_eight],
    fun c => by show sh (sh c (8 - n.val)) n.val = c; rw [sh_sh, Nat.sub_add_cancel (by omega), sh_eight]⟩

/-! ## The cells -/

/-- The cells of one device. -/
inductive Ck where
  | bar
  | snd (d : Bool) (σ : Fin 2) (j : Fin 8)
  | rcv (d : Bool) (σ : Fin 2) (j : Fin 8)
  | crd (d : Bool) (j : Fin 8)
  | asnd (k : Fin 8)
  | arcv (k : Fin 8)
  | out (d : Bool) (j : Fin 8)
  deriving DecidableEq

/-- A direction and a chunk. -/
abbrev Ch : Type := Bool × Fin 8

abbrev CkS : Type := Unit ⊕ (Ch × Fin 2) ⊕ (Ch × Fin 2) ⊕ Ch ⊕ Fin 8 ⊕ Fin 8 ⊕ Ch

def ckE : CkS ≃ Ck where
  toFun
    | .inl _ => .bar
    | .inr (.inl p) => .snd p.1.1 p.2 p.1.2
    | .inr (.inr (.inl p)) => .rcv p.1.1 p.2 p.1.2
    | .inr (.inr (.inr (.inl p))) => .crd p.1 p.2
    | .inr (.inr (.inr (.inr (.inl k)))) => .asnd k
    | .inr (.inr (.inr (.inr (.inr (.inl k))))) => .arcv k
    | .inr (.inr (.inr (.inr (.inr (.inr p))))) => .out p.1 p.2
  invFun
    | .bar => .inl ()
    | .snd d σ j => .inr (.inl ((d, j), σ))
    | .rcv d σ j => .inr (.inr (.inl ((d, j), σ)))
    | .crd d j => .inr (.inr (.inr (.inl (d, j))))
    | .asnd k => .inr (.inr (.inr (.inr (.inl k))))
    | .arcv k => .inr (.inr (.inr (.inr (.inr (.inl k)))))
    | .out d j => .inr (.inr (.inr (.inr (.inr (.inr (d, j))))))
  left_inv x := by rcases x with _ | _ | _ | _ | _ | _ | _ <;> rfl
  right_inv x := by cases x <;> rfl

instance : Fintype Ck := Fintype.ofEquiv _ ckE

def csem : Ck → SemLoc sig
  | .bar => .reg barS
  | .snd d σ j => .dma (sendS d σ j)
  | .rcv d σ j => .dma (recvS d σ j)
  | .crd d j => .reg (credS d j)
  | .asnd k => .dma (asndS k)
  | .arcv k => .dma (arcvS k)
  | .out d j => .dma (outS d j)

/-- A number for each semaphore: the DMA ones first. -/
def semCode : SemLoc sig → ℕ
  | .dma q => q.val
  | .reg q => 1000 + q.val

/-- The cells' numbers. -/
def ckCode : Ck → ℕ
  | .bar => 1016
  | .snd d σ j => 2 + 32 * d.toNat + 8 * σ.val + j.val
  | .rcv d σ j => 18 + 32 * d.toNat + 8 * σ.val + j.val
  | .crd d j => 1000 + 8 * d.toNat + j.val
  | .asnd k => 66 + k.val
  | .arcv k => 74 + k.val
  | .out d j => 82 + 8 * d.toNat + j.val

theorem semCode_csem (k : Ck) : semCode (csem k) = ckCode k := by
  cases k with
  | bar => rfl
  | snd d σ j => revert d σ j; decide
  | rcv d σ j => revert d σ j; decide
  | crd d j => revert d j; decide
  | asnd k => revert k; decide
  | arcv k => revert k; decide
  | out d j => revert d j; decide

/-- The cell of a number. -/
def ckDec (n : ℕ) : Ck :=
  let j : Fin 8 := ⟨n % 8, Nat.mod_lt _ (by decide)⟩
  let a : Fin 8 := ⟨(n + 6) % 8, Nat.mod_lt _ (by decide)⟩
  let σ : Fin 2 := ⟨(n - 2) / 8 % 2, Nat.mod_lt _ (by decide)⟩
  if n = 1016 then .bar else if 1000 ≤ n then .crd (1008 ≤ n) j
  else if 82 ≤ n then .out (90 ≤ n) a else if 74 ≤ n then .arcv a else if 66 ≤ n then .asnd a
  else if (n - 2) / 16 % 2 = 0 then .snd (34 ≤ n) σ a else .rcv (50 ≤ n) σ a

theorem ckDec_code (k : Ck) : ckDec (ckCode k) = k := by
  cases k with
  | bar => rfl
  | snd d σ j => revert d σ j; decide
  | rcv d σ j => revert d σ j; decide
  | crd d j => revert d j; decide
  | asnd k => revert k; decide
  | arcv k => revert k; decide
  | out d j => revert d j; decide

theorem ckCode_inj : Function.Injective ckCode := fun a b h => by rw [← ckDec_code a, ← ckDec_code b, h]

theorem csem_inj : Function.Injective csem := fun a b h => ckCode_inj (by rw [← semCode_csem, ← semCode_csem, h])

/-- The cell of a semaphore, if it is one. -/
def ckOf : SemLoc sig → Option Ck := Function.partialInv csem
theorem ckOf_csem (k : Ck) : ckOf (csem k) = some k := Function.partialInv_left csem_inj k

abbrev kcell (c : Dev nD) (k : Ck) : GSem nD τ sig := ((c : Thread nD τ), csem k)

theorem kcell_inj : Function.Injective fun p : Dev nD × Ck => kcell p.1 p.2 := by
  rintro ⟨c, k⟩ ⟨c', k'⟩ h
  have h1 : ((c : Thread nD τ)).1 = (c' : Thread nD τ).1 := congrArg (fun g => g.1.1) h
  have h2 : csem k = csem k' := congrArg (fun g => g.2) h
  exact Prod.ext h1 (csem_inj h2)

theorem bigSep_Ck {M : Type*} [URA M] (Φ : Ck → sProp M) :
    bigSep Finset.univ Φ = iprop(Φ .bar ∗ (bigSep Finset.univ fun p : Ch => bigSep Finset.univ fun σ : Fin 2 => Φ (.snd p.1 σ p.2))
      ∗ (bigSep Finset.univ fun p : Ch => bigSep Finset.univ fun σ : Fin 2 => Φ (.rcv p.1 σ p.2))
      ∗ (bigSep Finset.univ fun p : Ch => Φ (.crd p.1 p.2))
      ∗ (bigSep Finset.univ fun k : Fin 8 => Φ (.asnd k))
      ∗ (bigSep Finset.univ fun k : Fin 8 => Φ (.arcv k))
      ∗ (bigSep Finset.univ fun p : Ch => Φ (.out p.1 p.2))) := by
  rw [bigSep_univ_equiv ckE, bigSep_univ_sum, bigSep_univ_sum, bigSep_univ_sum, bigSep_univ_sum, bigSep_univ_sum, bigSep_univ_sum,
    bigSep_univ_prod (α := Ch), bigSep_univ_prod (α := Ch), Finset.univ_unique, bigSep_singleton]
  rfl

end Cert.KernelIdeal.Own

end
-- ==== Proof.Sched.lean ====
/- What each cell's rounds hand over, and in which order a device pays what it owes. -/
module

public import proofs.«01_k».proof.Proof.Cells

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Contents -/

abbrev XC (F : FTy → Type) : Type := (cc0_stg0_0 : Ref sig .tc).ty.Contents (Elt F)
abbrev WC (F : FTy → Type) : Type := (cc0_stg1_0 : Ref sig .tc).ty.Contents (Elt F)

variable (xs : Dev nD → XC F) (ws : Dev nD → WC F)

abbrev st (s : ℕ) : Fin 7 := ⟨s % 7, Nat.mod_lt _ (by decide)⟩

/-- The rows of `x` a chunk's sum starts with. -/
def xv0 (c : Dev nD) : Bool → FVec F S512x512 .f32
  | false => xM.view.readAt (Elt F) (xR0 c false).toLoadRect (xs c)
  | true => xM.view.readAt (Elt F) (xR0 c true).toLoadRect (xs c)
/-- The rows of `x` step `s` adds. -/
def xv (c : Dev nD) (s : Fin 7) : Bool → FVec F S512x512 .f32
  | false => xM.view.readAt (Elt F) (xR c s false).toLoadRect (xs c)
  | true => xM.view.readAt (Elt F) (xR c s true).toLoadRect (xs c)
/-- A column chunk of `w`. -/
def wv (c : Dev nD) (ch : Ch) : FVec F S512x512 .f32 := wM.view.readAt (Elt F) (wR ch.1 ch.2).toLoadRect (ws c)

/-- The partial sum of a chunk that leaves device `c` at step `s`. -/
def acc (ch : Ch) : ℕ → Dev nD → FVec F S512x512 .f32
  | 0, c => dot3 (xv0 xs c ch.1) (wv ws c ch)
  | s + 1, c => addf (acc ch s (up c ch.1)) (dot3 (xv xs c (st s) ch.1) (wv ws c ch))

/-- A chunk of device `c`'s rows of the product. -/
def yv (c : Dev nD) (ch : Ch) : FVec F S512x512 .f32 := acc xs ws ch 7 c

/-- The position of a chunk in a round. -/
def num (ch : Ch) : ℕ := 2 * ch.2.val + ch.1.toNat
def chAt (q : ℕ) : Ch := (decide (q % 2 = 1), ⟨q / 2 % 8, Nat.mod_lt _ (by decide)⟩)
theorem chAt_num (ch : Ch) : chAt (num ch) = ch := by revert ch; decide
theorem num_lt (ch : Ch) : num ch < 16 := by revert ch; decide
theorem num_inj : Function.Injective num := fun a b h => by rw [← chAt_num a, ← chAt_num b, h]

/-- The greatest magnitude in the first `q` chunks. -/
def amaxF (c : Dev nD) : ℕ → F .f32
  | 0 => Scalar.ofBits .f32 0x00000000#32
  | q + 1 => amaxStep (amaxF c q) (yv xs ws c (chAt q))

/-- The greatest magnitude in device `c`'s rows. -/
def amaxv (c : Dev nD) : F .f32 := amaxF xs ws c 16
/-- The rows as device `c` collects them. -/
def amaxAll (c : Dev nD) : Vec F S8x128 .f32 := fun i => amaxv xs ws (sh c (8 - (i 0).val))
/-- The greatest magnitude of all. -/
def gv (c : Dev nD) : F .f32 := gmaxOf (amaxAll xs ws c)
/-- A chunk of the result. -/
def ov (c : Dev nD) (ch : Ch) : FVec F S512x512 .f32 := quant (gv xs ws c) (yv xs ws c ch)

/-! ## Amounts -/

def N : ℕ := (chM false 0 0).view.dmaCredit
def NA : ℕ := (rowM 0).view.dmaCredit
def NO : ℕ := (outM false 0).view.dmaCredit
theorem N_pos : 0 < N := View.dmaCredit_pos _ (by decide)
theorem NA_pos : 0 < NA := View.dmaCredit_pos _ (by decide)
theorem NO_pos : 0 < NO := View.dmaCredit_pos _ (by decide)
theorem credit_ch (d : Bool) (σ : Fin 2) (j : Fin 8) : (chM d σ j).view.dmaCredit = N := by cases d <;> rfl
theorem credit_row (k : Fin 8) : (rowM k).view.dmaCredit = NA := rfl
theorem credit_out (d : Bool) (j : Fin 8) : (outM d j).view.dmaCredit = NO := rfl

/-! ## What the cells hand over -/

section Pay

/-- A memref owned whole at some contents. -/
def any {sp : Space} {s : Shape} {e : EltTy} (c : Dev nD) (m : Memref sig .tc sp s e) : sProp 𝕄 :=
  iprop(∃ X : s.Idx → Elt F e, owns (c : Thread nD τ) m fullShare X)

instance any_storable {sp : Space} {s : Shape} {e : EltTy} (c : Dev nD) (m : Memref sig .tc sp s e) :
    BI.Storable (upEmb : UEmb _ 𝕄) (any (F := F) c m) := by unfold any; infer_instance

/-- The rows from `n` on of a device's greatest magnitudes. -/
def rowsFrom (c : Dev nD) (n : ℕ) : sProp 𝕄 :=
  bigSep Finset.univ fun k : Fin 7 => if n ≤ k.val + 1 then any (F := F) c (rowM k.succ) else iprop(emp)

instance rowsFrom_storable (c : Dev nD) (n : ℕ) : BI.Storable (upEmb : UEmb _ 𝕄) (rowsFrom (F := F) c n) := by
  unfold rowsFrom
  have (k : Fin 7) : BI.Storable (upEmb : UEmb _ 𝕄) (if n ≤ k.val + 1 then any (F := F) c (rowM k.succ) else iprop(emp)) := by
    split <;> infer_instance
  infer_instance

/-- What rides on the credit of one chunk: the permission to write the rows of a device further on. -/
def crdExt (c : Dev nD) (ch : Ch) (s : ℕ) : sProp 𝕄 :=
  if ch = (false, 0) then rowsFrom (F := F) (sh c (s + 2)) (s + 2) else iprop(emp)

instance crdExt_storable (c : Dev nD) (ch : Ch) (s : ℕ) : BI.Storable (upEmb : UEmb _ 𝕄) (crdExt (F := F) c ch s) := by
  unfold crdExt; split <;> infer_instance

abbrev slot (s : ℕ) : Fin 2 := ⟨s % 2, Nat.mod_lt _ (by decide)⟩

/-- The credit of step `s`: the down neighbour's slot, free, and that its receive cell is at the right round. -/
def crdPay (c : Dev nD) (ch : Ch) (s : ℕ) : sProp 𝕄 :=
  iprop(any (F := F) (dn c ch.1) (chM ch.1 (slot s) ch.2) ∗ reached ER (kcell (dn c ch.1) (.rcv ch.1 (slot s) ch.2)) ((s + 1) / 2)
    ∗ crdExt (F := F) c ch s)

/-- A neighbour's greeting: its free slots of that direction, and from the right neighbour its rows. -/
def barPay (c : Dev nD) (d : Bool) : sProp 𝕄 :=
  iprop((bigSep Finset.univ fun j : Fin 8 => any (F := F) (dn c d) (chM d 1 j))
    ∗ (match d with | false => rowsFrom (F := F) (dn c false) 1 | true => iprop(emp)))

/-- The shares the row is lent out in. -/
def remSh : ℕ → PosShare TreeShare
  | 0 => fullShare
  | n + 1 => (remSh n).right
def pieceSh (n : ℕ) : PosShare TreeShare := (remSh n).left

/-- A chunk's slot holding a partial sum. -/
def chOwn (c : Dev nD) (ch : Ch) (σ : Fin 2) (v : FVec F S512x512 .f32) : sProp 𝕄 :=
  owns (c : Thread nD τ) (chM ch.1 σ ch.2) fullShare v
/-- A row holding a value. -/
def rowOwn (c : Dev nD) (k : Fin 8) (q : PosShare TreeShare) (a : F .f32) : sProp 𝕄 :=
  owns (c : Thread nD τ) (rowM k) q (rowOf a)
/-- A chunk of the result. -/
def outOwn (c : Dev nD) (ch : Ch) (v : FVec F S512x512 .f32) : sProp 𝕄 :=
  owns (c : Thread nD τ) (outM ch.1 ch.2) fullShare v

def dutK : Ck → ℕ → Finset Bool
  | .bar, r => if r = 0 then Finset.univ else ∅
  | .snd _ σ _, r => if r + σ.val < 4 then {false} else ∅
  | .rcv _ σ _, r => if r < 3 + σ.val then {false} else ∅
  | .crd _ _, r => if r < 6 then {false} else ∅
  | .asnd k, r => if k ≠ 0 ∧ r = 0 then {false} else ∅
  | .arcv k, r => if k ≠ 0 ∧ r = 0 then {false} else ∅
  | .out _ _, r => if r = 0 then {false} else ∅

def amtK : Ck → ℕ
  | .bar => 1
  | .snd _ _ _ => N
  | .rcv _ _ _ => N
  | .crd _ _ => 1
  | .asnd _ => NA
  | .arcv _ => NA
  | .out _ _ => NO

theorem amtK_pos (k : Ck) : 0 < amtK k := by
  cases k
  case bar => exact Nat.one_pos
  case crd => exact Nat.one_pos
  case snd => exact N_pos
  case rcv => exact N_pos
  case asnd => exact NA_pos
  case arcv => exact NA_pos
  case out => exact NO_pos

def payK (c : Dev nD) : Ck → ℕ → Bool → sProp 𝕄
  | .bar, _, d => barPay (F := F) c d
  | .snd d σ j, r, _ => chOwn c (d, j) σ (acc xs ws (d, j) (2 * r + σ.val) c)
  | .rcv d σ j, r, _ => iprop(chOwn c (d, j) σ (acc xs ws (d, j) (2 * r + 1 - σ.val) (up c d))
      ∗ reached ER (kcell (up c d) (.crd d j)) (2 * r + 1 - σ.val))
  | .crd d j, r, _ => crdPay (F := F) c (d, j) r
  | .asnd k, _, _ => rowOwn c 0 (pieceSh (k.val - 1)) (amaxv xs ws c)
  | .arcv k, _, _ => rowOwn c k fullShare (amaxv xs ws (sh c (8 - k.val)))
  | .out d j, _, _ => iprop(outOwn c (d, j) (ov xs ws c (d, j)) ∗ chOwn c (d, j) 0 (ov xs ws c (d, j)))

instance payK_storable (c : Dev nD) (k : Ck) (r : ℕ) (d : Bool) : BI.Storable (upEmb : UEmb _ 𝕄) (payK xs ws c k r d) := by
  cases k <;> simp only [payK, barPay, crdPay, chOwn, rowOwn, outOwn] <;> first | infer_instance | (cases d <;> infer_instance)

/-- The schedule of all cells. -/
def Rd : Rounds.Schedule (GSem nD τ sig) Bool 𝕄 where
  duties g r := if g.1.2 = .tc then (match ckOf g.2 with | some k => dutK k r | none => ∅) else ∅
  unitless _ := False
  amount g _ _ := match ckOf g.2 with | some k => amtK k | none => 1
  payload g r d := match ckOf g.2 with | some k => payK xs ws g.1.1 k r d | none => iprop(emp)
  amount_pos g _ _ _ := by
    cases h : ckOf g.2 with
    | none => exact Nat.one_pos
    | some k => exact amtK_pos k

instance Rd_payload_storable (g : GSem nD τ sig) (r : ℕ) (d : Bool) :
    BI.Storable (upEmb : UEmb _ 𝕄) ((Rd xs ws).payload g r d) := by
  show BI.Storable upEmb (match ckOf g.2 with | some k => payK xs ws g.1.1 k r d | none => iprop(emp))
  cases h : ckOf g.2 <;> infer_instance

theorem Rd_duties (c : Dev nD) (k : Ck) (r : ℕ) : (Rd xs ws).duties (kcell c k) r = dutK k r := by
  dsimp only [Rd]; rw [if_pos rfl, ckOf_csem]
theorem Rd_amount (c : Dev nD) (k : Ck) (r : ℕ) (d : Bool) : (Rd xs ws).amount (kcell c k) r d = amtK k := by
  dsimp only [Rd]; rw [ckOf_csem]
theorem Rd_payload (c : Dev nD) (k : Ck) (r : ℕ) (d : Bool) : (Rd xs ws).payload (kcell c k) r d = payK xs ws c k r d := by
  dsimp only [Rd]; rw [ckOf_csem]
theorem Rd_expect (c : Dev nD) (k : Ck) (r : ℕ) : (Rd xs ws).expect (kcell c k) r = (dutK k r).card * amtK k := by
  unfold Schedule.expect Schedule.amountOf
  rw [Rd_duties, Finset.sum_congr rfl fun d _ => Rd_amount xs ws c k r d, Finset.sum_const, smul_eq_mul]
theorem Rd_rest (c : Dev nD) (k : Ck) (r : ℕ) (h : dutK k r = {false}) :
    bigSep ((Rd xs ws).duties (kcell c k) r \ ∅) (fun d => (Rd xs ws).payload (kcell c k) r d) = payK xs ws c k r false := by
  rw [Finset.sdiff_empty, Rd_duties, h, bigSep_singleton, Rd_payload]
theorem Rd_rest_bar (c : Dev nD) :
    bigSep ((Rd xs ws).duties (kcell c .bar) 0 \ ∅) (fun d => (Rd xs ws).payload (kcell c .bar) 0 d)
      = iprop(barPay (F := F) c false ∗ barPay (F := F) c true) := by
  rw [Finset.sdiff_empty, Rd_duties, show dutK .bar 0 = Finset.univ from rfl,
    bigSep_univ_eq_bigSepL [false, true] (by decide) (by decide), bigSepL_cons_cons, bigSepL_singleton,
    Rd_payload, Rd_payload]
  rfl

/-- The round a cell ends at. -/
def fin : Ck → ℕ
  | .bar => 1
  | .snd _ σ _ => 4 - σ.val
  | .rcv _ σ _ => 3 + σ.val
  | .crd _ _ => 6
  | .asnd k => if k = 0 then 0 else 1
  | .arcv k => if k = 0 then 0 else 1
  | .out _ _ => 1

theorem dutK_fin (k : Ck) (r : ℕ) (h : fin k ≤ r) : dutK k r = ∅ := by
  cases k <;> simp only [fin] at h <;> simp only [dutK]
  case bar => exact if_neg (by omega)
  case snd => exact if_neg (by omega)
  case rcv => exact if_neg (by omega)
  case crd => exact if_neg (by omega)
  case asnd k => exact if_neg (fun h' => by rw [if_neg h'.1] at h; omega)
  case arcv k => exact if_neg (fun h' => by rw [if_neg h'.1] at h; omega)
  case out => exact if_neg (by omega)

end Pay

/-! ## What a device owes -/

/-- The payments of a device: the greetings, the copies of partial sums, the credits, the copies of rows. -/
abbrev D : Type := Bool ⊕ (Ch × Fin 7) ⊕ (Ch × Fin 6) ⊕ Fin 7

abbrev D.bar (b : Bool) : D := .inl b
abbrev D.copy (ch : Ch) (s : Fin 7) : D := .inr (.inl (ch, s))
abbrev D.cred (ch : Ch) (s : Fin 6) : D := .inr (.inr (.inl (ch, s)))
abbrev D.row (k : Fin 7) : D := .inr (.inr (.inr k))

def dTo (c : Dev nD) : D → Dev nD
  | .inl b => up c b
  | .inr (.inl p) => dn c p.1.1
  | .inr (.inr (.inl p)) => up c p.1.1
  | .inr (.inr (.inr k)) => sh c (k.val + 1)
def dCk : D → Ck
  | .inl _ => .bar
  | .inr (.inl p) => .rcv p.1.1 (slot (p.2.val + 1)) p.1.2
  | .inr (.inr (.inl p)) => .crd p.1.1 p.1.2
  | .inr (.inr (.inr k)) => .arcv k.succ
def dI : D → ℕ
  | .inl _ => 0
  | .inr (.inl p) => p.2.val
  | .inr (.inr (.inl p)) => p.2.val
  | .inr (.inr (.inr _)) => 0
def dA : D → ℕ
  | .inl _ => 1
  | .inr (.inl _) => N
  | .inr (.inr (.inl _)) => 1
  | .inr (.inr (.inr _)) => NA
/-- The order of the payments. -/
def key : D → ℕ
  | .inl b => b.toNat
  | .inr (.inl p) => if p.2.val = 0 then 2 + num p.1 else 18 + 2 * (16 * (p.2.val - 1) + num p.1) + 1
  | .inr (.inr (.inl p)) => 18 + 2 * (16 * p.2.val + num p.1)
  | .inr (.inr (.inr k)) => 210 + k.val

theorem bool_toNat_lt (b : Bool) : b.toNat < 2 := by cases b <;> decide

theorem key_lt (e : D) : key e < 217 := by
  rcases e with b | ⟨ch, s⟩ | ⟨ch, s⟩ | k <;> simp only [key]
  · have := bool_toNat_lt b; omega
  · have := num_lt ch; have := s.isLt; split <;> omega
  · have := num_lt ch; have := s.isLt; omega
  · omega

theorem key_inj : Function.Injective key := by
  intro a b h
  rcases a with b1 | ⟨ch, s⟩ | ⟨ch, s⟩ | k <;> rcases b with b2 | ⟨ch', s'⟩ | ⟨ch', s'⟩ | k' <;> simp only [key] at h
  · have : b1 = b2 := by cases b1 <;> cases b2 <;> simp_all
    rw [this]
  · have := bool_toNat_lt b1; split at h <;> omega
  · have := bool_toNat_lt b1; omega
  · have := bool_toNat_lt b1; omega
  · have := bool_toNat_lt b2; split at h <;> omega
  · have := num_lt ch; have := num_lt ch'; have := s.isLt; have := s'.isLt
    have h1 : s.val = s'.val ∧ num ch = num ch' := by split at h <;> split at h <;> omega
    rw [num_inj h1.2, Fin.ext h1.1]
  · have := num_lt ch; have := num_lt ch'; split at h <;> omega
  · have := num_lt ch; have := s.isLt; split at h <;> omega
  · have := bool_toNat_lt b2; omega
  · have := num_lt ch; have := num_lt ch'; split at h <;> omega
  · have := num_lt ch; have := num_lt ch'
    have h1 : s.val = s'.val ∧ num ch = num ch' := by omega
    rw [num_inj h1.2, Fin.ext h1.1]
  · have := num_lt ch; have := s.isLt; omega
  · have := bool_toNat_lt b2; omega
  · have := num_lt ch'; have := s'.isLt; split at h <;> omega
  · have := num_lt ch'; have := s'.isLt; omega
  · have : k.val = k'.val := by omega
    rw [Fin.ext this]

def dT (c : Dev nD) (e : D) : CellTallies nD τ sig ℕ := tallyAt (kcell (dTo c e) (dCk e)) (dI e) (dA e)

/-- What device `c` still owes after `n` payments. -/
def O (c : Dev nD) (n : ℕ) : CellTallies nD τ sig ℕ := ∑ e ∈ Finset.univ.filter (fun e => n ≤ key e), dT c e

theorem O_step (c : Dev nD) (e : D) (n : ℕ) (h : key e = n) : O c n = O c (n + 1) + dT c e := by
  have hs : Finset.univ.filter (fun e => n ≤ key e) = insert e (Finset.univ.filter (fun e => n + 1 ≤ key e)) := by
    ext e'
    simp only [Finset.mem_filter, Finset.mem_univ, true_and, Finset.mem_insert]
    constructor
    · intro h'
      rcases Nat.lt_or_ge n (key e') with h2 | h2
      · exact .inr h2
      · exact .inl (key_inj (by omega))
    · rintro (rfl | h')
      · omega
      · omega
  unfold O
  rw [hs, Finset.sum_insert (by simp [h]), add_comm]

theorem O_end (c : Dev nD) : O c 217 = 0 := by
  unfold O
  rw [Finset.filter_false_of_mem (fun e _ => by have := key_lt e; omega), Finset.sum_empty]

theorem O_zero (c : Dev nD) : O c 0 = ∑ e : D, dT c e := by
  unfold O
  rw [Finset.filter_true_of_mem (fun e _ => Nat.zero_le _)]

/-- No payment falls between the numbers `a` and `b`. -/
theorem O_skip (c : Dev nD) (a b : ℕ) (h : ∀ e : D, a ≤ key e → b ≤ key e) (hab : a ≤ b) : O c a = O c b := by
  unfold O
  congr 1
  ext e
  simp only [Finset.mem_filter, Finset.mem_univ, true_and]
  exact ⟨h e, fun h' => hab.trans h'⟩

theorem O_pos {c : Dev nD} {n : ℕ} {g : GSem nD τ sig} {u : ℕ} (h : 0 < O c n g u) :
    ∃ e : D, n ≤ key e ∧ g = kcell (dTo c e) (dCk e) ∧ u = dI e := by
  by_contra hn
  have h0 : O c n g u = 0 := by
    unfold O
    rw [Finset.sum_apply, Finsupp.finset_sum_apply]
    refine Finset.sum_eq_zero fun e he => ?_
    unfold dT
    rw [tallyAt_apply, if_neg]
    rintro ⟨h1, h2⟩
    exact hn ⟨e, (Finset.mem_filter.mp he).2, h1, h2⟩
  omega

/-! ## Levels -/

def L (g : GSem nD τ sig) : Finset ℕ := if g.1.2 = .tc then Finset.range 8 else ∅
def lvK : Ck → ℕ → ℕ
  | .bar, _ => 1
  | .rcv d _ j, ι => 2 * (16 * ι + num (d, j)) + 2
  | .crd d j, ι => 2 * (16 * ι + num (d, j)) + 3
  | .arcv _, _ => 1000
  | _, _ => 0
def lv (g : GSem nD τ sig) (ι : ℕ) : ℕ := match ckOf g.2 with | some k => lvK k ι | none => 0

theorem L_of_ne (g : GSem nD τ sig) (h : g.1.2 ≠ .tc) : L g = ∅ := if_neg h
theorem L_tc (c : Dev nD) (sm : SemLoc sig) : L ((c : Thread nD τ), sm) = Finset.range 8 := if_pos rfl
theorem lv_cell (c : Dev nD) (k : Ck) (ι : ℕ) : lv (kcell c k) ι = lvK k ι := by unfold lv; rw [ckOf_csem]

theorem dI_lt (e : D) : dI e < 8 := by
  rcases e with b | ⟨ch, s⟩ | ⟨ch, s⟩ | k <;> simp only [dI] <;> omega

/-- A wait is allowed below everything still owed. -/
theorem mayWait_gen (c : Dev nD) (sm : SemLoc sig) (ι n cut : ℕ) (hι : ι < 8) (h1 : lv ((c : Thread nD τ), sm) ι ≤ cut)
    (h : ∀ e : D, n ≤ key e → cut < lvK (dCk e) (dI e)) :
    (levAts L lv : sProp 𝕄) ⊢ MayWait (c : Thread nD τ) sm ι (O c n) :=
  MayOwe.of_cut (L := L) (lev := lv) cut
    (fun p hp => by rw [Finset.mem_singleton.mp hp, L_tc]; exact Finset.mem_range.mpr hι)
    (fun g u hg => by
      obtain ⟨e, he, rfl, rfl⟩ := O_pos hg
      rw [L_tc]; exact Finset.mem_range.mpr (dI_lt e))
    (fun p hp => by rw [Finset.mem_singleton.mp hp]; exact h1)
    (fun g u hg => by
      obtain ⟨e, he, rfl, rfl⟩ := O_pos hg
      rw [lv_cell]; exact h e he)

theorem mayWait_cell (c : Dev nD) (k : Ck) (ι n : ℕ) (hι : ι < 8)
    (h : ∀ e : D, n ≤ key e → lvK k ι < lvK (dCk e) (dI e)) :
    (levAts L lv : sProp 𝕄) ⊢ MayWait (c : Thread nD τ) (csem k) ι (O c n) :=
  mayWait_gen c (csem k) ι n (lvK k ι) hι (by rw [lv_cell c k ι]) h

theorem lv_due_pos (e : D) : 0 < lvK (dCk e) (dI e) := by
  rcases e with b | ⟨ch, s⟩ | ⟨ch, s⟩ | k <;> simp only [dCk, dI, lvK] <;> omega

theorem lv_due_recv (e : D) (n : ℕ) (hn : n < 112) (h : 18 + 2 * n ≤ key e) : 2 * n + 2 < lvK (dCk e) (dI e) := by
  rcases e with b | ⟨ch, s⟩ | ⟨ch, s⟩ | k <;> simp only [dCk, dI, lvK, key] at h ⊢
  · have := bool_toNat_lt b; omega
  · have := num_lt ch; split at h <;> omega
  · have e : num (ch.1, ch.2) = num ch := rfl
    omega
  · omega
theorem lv_due_cred (e : D) (n : ℕ) (hn : n < 96) (h : 18 + 2 * n + 1 ≤ key e) : 2 * n + 3 < lvK (dCk e) (dI e) := by
  rcases e with b | ⟨ch, s⟩ | ⟨ch, s⟩ | k <;> simp only [dCk, dI, lvK, key] at h ⊢
  · have := bool_toNat_lt b; omega
  · have := num_lt ch; split at h <;> omega
  · have e : num (ch.1, ch.2) = num ch := rfl
    omega
  · omega
theorem lv_due_bar (e : D) (h : 2 ≤ key e) : 1 < lvK (dCk e) (dI e) := by
  rcases e with b | ⟨ch, s⟩ | ⟨ch, s⟩ | k <;> simp only [dCk, dI, lvK, key] at h ⊢
  · have := bool_toNat_lt b; omega
  · omega
  · omega
  · omega

end Cert.KernelIdeal.Own

end
-- ==== Proof.Rules.lean ====
/- The effects of the kernel's operations on what a device holds. -/
module

public import proofs.«01_k».proof.Proof.Sched
public import Idealize.ShloMosaic.Lib.MemrefSat
public import Idealize.ShloMosaic.Lib.Pipeline.Value

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- A program of device `c` runs and leaves `Q`. -/
abbrev WP {α : Type} (c : Dev nD) (p : BP F α) (Q : α → sProp 𝕄) : sProp 𝕄 :=
  wp frame (wpE (defs₀ (F := F)) 𝒱₀ (c : Thread nD τ) none) Set.univ p Q

variable (xs : Dev nD → XC F) (ws : Dev nD → WC F)

/-! ## Loads and stores -/

theorem chOwn_any (c : Dev nD) (d : Bool) (j : Fin 8) (σ : Fin 2) (v : FVec F S512x512 .f32) :
    (chOwn c (d, j) σ v : sProp 𝕄) ⊢ any (F := F) c (chM d σ j) := by
  unfold chOwn any; iintro H; iexists v; iexact H

theorem ch_set (d : Bool) (σ : Fin 2) (j : Fin 8) : ((commM d).access (chR σ j)).set = (chM d σ j).view.set :=
  (View.set_reshape ..).symm

theorem wp_ldC (c : Dev nD) (d : Bool) (σ : Fin 2) (j : Fin 8) (v : FVec F S512x512 .f32) (Q : Vec F S1x512x512 .f32 → sProp 𝕄) :
    iprop(chOwn c (d, j) σ v ∗ (∀ w, ⌜to2 w = v⌝ -∗ chOwn c (d, j) σ v -∗ Q w)) ⊢ WP c (ldC d σ j) Q := by
  unfold chOwn owns
  iintro ⟨⟨%f, %hf, H⟩, HQ⟩
  iapply (wp_load_rect 𝒱₀ (c : Thread nD τ) none Set.univ (m := commM d) (r := chR σ j)
    (S := (chM d σ j).view.set) (by rw [ch_set])) $$ H
  iintro H
  iapply (le_wp_ret _ _ _ _ _)
  iapply HQ $$ %_ [] [H]
  · ipureintro; exact hf
  · iexists f; isplitr; · ipureintro; exact hf
    iexact H

theorem wp_ldC_any (c : Dev nD) (d : Bool) (σ : Fin 2) (j : Fin 8) (Q : Vec F S1x512x512 .f32 → sProp 𝕄) :
    iprop(any (F := F) c (chM d σ j) ∗ (∀ w, any (F := F) c (chM d σ j) -∗ Q w)) ⊢ WP c (ldC d σ j) Q := by
  iintro ⟨H, HQ⟩
  unfold any
  icases H with ⟨%X, H⟩
  iapply (wp_ldC c d σ j X Q)
  unfold chOwn
  isplitl [H]; · iexact H
  iintro %w %hw H
  iapply HQ $$ %w
  iexists X; iexact H

theorem wp_stC (c : Dev nD) (d : Bool) (σ : Fin 2) (j : Fin 8) (v : FVec F S512x512 .f32) (Q : PUnit → sProp 𝕄) :
    iprop(any (F := F) c (chM d σ j) ∗ (chOwn c (d, j) σ v -∗ Q ⟨⟩)) ⊢ WP c (stC d σ j v) Q := by
  unfold any chOwn owns
  iintro ⟨⟨%X, %f, %hf, H⟩, HQ⟩
  iapply (wp_store 𝒱₀ (c : Thread nD τ) none Set.univ (m := commM d) (r := chR σ j) (Mk := Finset.univ)
    (S := (chM d σ j).view.set) (by rw [View.setOn_univ, ch_set])) $$ H
  iintro H
  iapply (le_wp_ret _ _ _ _ _)
  iapply HQ
  iexists _
  isplitr
  · ipureintro
    show to2 (((commM d).access (chR σ j)).read (Elt F) (((commM d).access (chR σ j)).write (Elt F) f (to3 v) Finset.univ)) = v
    rw [View.read_write_univ]
    exact shapeCast_shapeCast _ _ _
  · iexact H

theorem wp_ldW (c : Dev nD) (d : Bool) (j : Fin 8) (Q : Vec F S512x512 .f32 → sProp 𝕄) :
    iprop((((c : Thread nD τ).loc cc0_stg1_0) ↦{fullShare} (ws c)) ∗ ((((c : Thread nD τ).loc cc0_stg1_0) ↦{fullShare} (ws c)) -∗ Q (wv ws c (d, j))))
      ⊢ WP c (ldW d j) Q := by
  unfold wv
  iintro ⟨H, HQ⟩
  iapply (wp_load 𝒱₀ (c : Thread nD τ) none Set.univ (m := wM) (Finset.subset_univ _)) $$ H
  iintro H
  iapply (le_wp_ret _ _ _ _ _)
  iapply HQ
  iexact H

theorem wp_ldX (c : Dev nD) (r : Rect S4096x512) (h : S512x512 = r.shape) (Q : Vec F r.shape .f32 → sProp 𝕄) :
    iprop((((c : Thread nD τ).loc cc0_stg0_0) ↦{fullShare} (xs c))
        ∗ ((((c : Thread nD τ).loc cc0_stg0_0) ↦{fullShare} (xs c)) -∗ Q (xM.view.readAt (Elt F) r.toLoadRect (xs c))))
      ⊢ WP c (ldX r h) Q := by
  iintro ⟨H, HQ⟩
  iapply (wp_load 𝒱₀ (c : Thread nD τ) none Set.univ (m := xM) (Finset.subset_univ _)) $$ H
  iintro H
  iapply (le_wp_ret _ _ _ _ _)
  iapply HQ
  iexact H

/-! ## The shared facts -/

section Facts
variable (K : Dev nD × Ck → ℕ)

/-- What every device knows: every cell's invariant, that every cell is past the start, the levels. -/
def recs : sProp 𝕄 :=
  iprop((bigSep Finset.univ fun p : Dev nD × Ck => cellInv ER (Rd xs ws) (K p) (kcell p.1 p.2))
    ∗ (bigSep Finset.univ fun p : Dev nD × Ck => reached ER (kcell p.1 p.2) 0) ∗ levAts L lv)

instance recs_persistent : BI.Persistent (recs xs ws K) := by unfold recs; infer_instance

theorem recs_inv (c : Dev nD) (k : Ck) : recs xs ws K ⊢ cellInv ER (Rd xs ws) (K (c, k)) (kcell c k) := by
  unfold recs
  iintro ⟨H, -, -⟩
  have h : (bigSep Finset.univ fun p : Dev nD × Ck => cellInv ER (Rd xs ws) (K p) (kcell p.1 p.2)) ⊢ cellInv ER (Rd xs ws) (K (c, k)) (kcell c k) :=
    bigSep_elim (Φ := fun p : Dev nD × Ck => cellInv ER (Rd xs ws) (K p) (kcell p.1 p.2)) (Finset.mem_univ (c, k))
  iapply h
  iexact H
theorem recs_reached (c : Dev nD) (k : Ck) : recs xs ws K ⊢ (reached ER (kcell c k) 0 : sProp 𝕄) := by
  unfold recs
  iintro ⟨-, H, -⟩
  have h : (bigSep Finset.univ fun p : Dev nD × Ck => (reached ER (kcell p.1 p.2) 0 : sProp 𝕄)) ⊢ reached ER (kcell c k) 0 :=
    bigSep_elim (Φ := fun p : Dev nD × Ck => (reached ER (kcell p.1 p.2) 0 : sProp 𝕄)) (Finset.mem_univ (c, k))
  iapply h
  iexact H
theorem recs_lev : recs xs ws K ⊢ (levAts L lv : sProp 𝕄) := by
  unfold recs; iintro ⟨-, -, H⟩; iexact H

/-- What device `c` owes after `n` payments, whatever it waited for. -/
def ow (c : Dev nD) (n : ℕ) : sProp 𝕄 := iprop(∃ W, owes (c : Thread nD τ) (O c n) W)

/-! ## Waits -/

theorem wp_wait1 (c : Dev nD) (k : Ck) (r ι n a : ℕ) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem k) a K')
    (ha : a = amtK k) (hd : dutK k r = {false}) (hι : ι < 8) (h : ∀ e : D, n ≤ key e → lvK k ι < lvK (dCk e) (dI e))
    (Q : PUnit → sProp 𝕄) :
    iprop(recs xs ws K ∗ cred (tallyAt (kcell c k) ι (amtK k)) ∗ ow (F := F) c n ∗ atPos ER (kcell c k) r ∅ 0
        ∗ (ow (F := F) c n -∗ atPos ER (kcell c k) (r + 1) ∅ 0 -∗ reached ER (kcell c k) (r + 1) -∗ payK xs ws c k r false -∗ Q ⟨⟩))
      ⊢ WP c (Prog.lift w) Q := by
  subst ha
  unfold ow
  iintro ⟨#HR, Hc, ⟨%W, HO⟩, Hat, HQ⟩
  iapply (Rounds.wp_wait_rest_token 𝒱₀ ER (Rd xs ws) (c : Thread nD τ) none (κ := K (c, k)) (sm := csem k) (k' := amtK k) hw (Set.mem_univ _) ι
    (O := O c n) (W := W) (R := r) (m := 0) (T := ∅)
    (by rw [Nat.zero_add, Rd_expect xs ws c k r, hd, Finset.card_singleton, Nat.one_mul])) $$ [Hc HO Hat]
  · isplitr; · iapply (recs_inv xs ws K c k); iexact HR
    isplitl [Hc]; · iexact Hc
    isplitl [HO]; · iexact HO
    isplitr; · iapply (mayWait_cell c k ι n hι h); iapply (recs_lev xs ws K); iexact HR
    iexact Hat
  iintro ⟨HO, Hat, Hr, Hpay⟩
  iapply (le_wp_ret _ _ _ _ _)
  iapply HQ $$ [HO] [Hat] [Hr] [Hpay]
  · iexists _; iexact HO
  · iexact Hat
  · iexact Hr
  · iapply (Entails.of_eq (Rd_rest xs ws c k r hd)); iexact Hpay

/-- The wait for a copy of direction `d` on one of this device's cells. -/
theorem wp_wtC (c : Dev nD) (k : Ck) (sm : DmaSem sig) (hk : csem k = .dma sm) (hN : amtK k = N) (d : Bool) (σ σ' : Fin 2) (j : Fin 8) (r ι n : ℕ)
    (hd : dutK k r = {false}) (hι : ι < 8) (h : ∀ e : D, n ≤ key e → lvK k ι < lvK (dCk e) (dI e)) (Q : PUnit → sProp 𝕄) :
    iprop(recs xs ws K ∗ cred (tallyAt (kcell c k) ι N) ∗ ow (F := F) c n ∗ atPos ER (kcell c k) r ∅ 0
        ∗ (ow (F := F) c n -∗ atPos ER (kcell c k) (r + 1) ∅ 0 -∗ reached ER (kcell c k) (r + 1) -∗ payK xs ws c k r false -∗ Q ⟨⟩))
      ⊢ WP c (wtC sm d σ σ' j) Q := by
  rw [← hN]
  exact wp_wait1 xs ws K c k r ι n (chM d σ' j).view.dmaCredit
    (fun K' => (wpE_waitDma2_eq 𝒱₀ (c : Thread nD τ) none Set.univ K').trans (by rw [hk])) ((credit_ch d σ' j).trans hN.symm) hd hι h Q

/-! ## Payments -/

/-- A signal of one unit pays payment `e`. -/
theorem wp_sig (c : Dev nD) (e : D) (sm : Sem sig) (dst : Dev nD) (hdst : dTo c e = dst) (hk : csem (dCk e) = .reg sm) (d : Bool) (r : ℕ) (hd : d ∈ dutK (dCk e) r)
    (ha : amtK (dCk e) = 1) (hA : dA e = 1) (Q : PUnit → sProp 𝕄) :
    iprop(recs xs ws K ∗ ow (F := F) c (key e) ∗ dutyTok ER (kcell dst (dCk e)) r d ∗ payK xs ws dst (dCk e) r d
        ∗ reached ER (kcell dst (dCk e)) r ∗ (ow (F := F) c (key e + 1) -∗ Q ⟨⟩))
      ⊢ WP c (semSignalWord dst sm 1#32) Q := by
  subst hdst
  unfold ow
  iintro ⟨#HR, ⟨%W, HO⟩, Ht, Hp, Hr, HQ⟩
  have hcell : kcell (dTo c e) (dCk e) = (((dTo c e : Dev nD) : Thread nD τ), SemLoc.reg sm) := by unfold kcell; rw [hk]
  have hO : O c (key e) = O c (key e + 1) + tallyAt (((dTo c e : Dev nD) : Thread nD τ), SemLoc.reg sm) (dI e) ((1#32 : BitVec 32).toInt).toNat := by
    rw [O_step c e _ rfl]; unfold dT; rw [hcell, hA]; rfl
  iapply (Rounds.wp_signal 𝒱₀ ER (Rd xs ws) (c : Thread nD τ) none (dst := ((dTo c e : Dev nD) : Thread nD τ)) (sem := sm) (κ := K (dTo c e, dCk e))
      (r := r) (d := d) (by rw [← hcell, Rd_duties]; exact hd) (by rw [← hcell, Rd_amount, ha]; decide) (dI e) (O c (key e + 1)) hO (W := W)) $$ [HO Ht Hp Hr]
  · rw [← hcell]
    isplitr; · iapply (recs_inv xs ws K (dTo c e) (dCk e)); iexact HR
    isplitl [HO]; · iexact HO
    isplitl [Ht]; · iexact Ht
    isplitl [Hp]; · rw [Rd_payload]; iexact Hp
    iexact Hr
  iintro HO
  iapply (le_wp_ret _ _ _ _ _)
  iapply HQ
  iexists W; iexact HO

/-- A copy to another device that pays payment `e`. -/
theorem wp_send_gen (c c' : Dev nD) {sp sp' : Space} {s : Shape} {e : EltTy} (src : Memref sig .tc sp s e) (dst : Memref sig .tc sp' s e)
    (k₁ k₂ : Ck) (s₁ s₂ : DmaSem sig) (h₁ : csem k₁ = .dma s₁) (h₂ : csem k₂ = .dma s₂)
    {hsc : dst.view.ref.isScScratch = false} {hsrc : src.view.WordExact} {hdst : dst.view.WordExact}
    {hsem : DmaTarget.Typed sp (.dma s₂) (.remote (Dev.tc c' : Thread nD τ) dst (.dma s₁) hsc)}
    (p : D) (hto : dTo c p = c') (hck : dCk p = k₂) (r₁ r₂ M : ℕ) (q : PosShare TreeShare) (v : s.Idx → Elt F e)
    (hM : dst.view.dmaCredit = M) (ha₁ : amtK k₁ = M) (ha₂ : amtK k₂ = M) (hA : dA p = M)
    (hd₁ : dutK k₁ r₁ = {false}) (hd₂ : dutK k₂ r₂ = {false})
    (hp₁ : owns (c : Thread nD τ) src q v ⊢ payK xs ws c k₁ r₁ false)
    (G : sProp 𝕄) (hp₂ : iprop(owns (c' : Thread nD τ) dst fullShare v ∗ G) ⊢ payK xs ws c' k₂ r₂ false) (Q : PUnit → sProp 𝕄) :
    iprop(recs xs ws K ∗ owns (c : Thread nD τ) src q v ∗ any (F := F) c' dst ∗ G ∗ ow (F := F) c (key p)
        ∗ dutyTok ER (kcell c k₁) r₁ false ∗ reached ER (kcell c k₁) r₁
        ∗ dutyTok ER (kcell c' k₂) r₂ false ∗ reached ER (kcell c' k₂) r₂
        ∗ (cred (tallyAt (kcell c k₁) 0 M) -∗ ow (F := F) c (key p + 1) -∗ Q ⟨⟩))
      ⊢ WP c (Prog.lift (.enqueueDma src (.remote (Dev.tc c' : Thread nD τ) dst (.dma s₁) hsc) (.dma s₂) hsrc hdst hsem)) Q := by
  subst hto
  subst hck
  have hc₁ : kcell c k₁ = ((c : Thread nD τ), SemLoc.dma s₁) := by unfold kcell; rw [h₁]
  have hc₂ : kcell (dTo c p) (dCk p) = (((dTo c p : Dev nD) : Thread nD τ), SemLoc.dma s₂) := by unfold kcell; rw [h₂]
  have hO : O c (key p) = O c (key p + 1) + tallyAt (((dTo c p : Dev nD) : Thread nD τ), SemLoc.dma s₂) (dI p) M := by
    rw [O_step c p _ rfl]; unfold dT; rw [hc₂, hA]
  have i₁ := recs_inv xs ws K c k₁
  have i₂ := recs_inv xs ws K (dTo c p) (dCk p)
  have e₁ : (Rd xs ws).duties ((c : Thread nD τ), SemLoc.dma s₁) r₁ = {false} := by rw [← hc₁, Rd_duties, hd₁]
  have e₂ : (Rd xs ws).duties (((dTo c p : Dev nD) : Thread nD τ), SemLoc.dma s₂) r₂ = {false} := by rw [← hc₂, Rd_duties, hd₂]
  have m₁ : (Rd xs ws).amount ((c : Thread nD τ), SemLoc.dma s₁) r₁ false = M := by rw [← hc₁, Rd_amount, ha₁]
  have m₂ : (Rd xs ws).amount (((dTo c p : Dev nD) : Thread nD τ), SemLoc.dma s₂) r₂ false = M := by rw [← hc₂, Rd_amount, ha₂]
  rw [← Rd_payload, hc₁] at hp₁
  rw [← Rd_payload, hc₂] at hp₂
  rw [hc₁] at i₁ ⊢
  rw [hc₂] at i₂ ⊢
  unfold ow any
  iintro ⟨#HR, Hsrc, ⟨%X, Hdst⟩, HG, ⟨%W, HO⟩, Ht1, Hr1, Ht2, Hr2, HQ⟩
  unfold owns
  icases Hsrc with ⟨%f, %hf, Hsrc⟩
  icases Hdst with ⟨%g, %hg, Hdst⟩
  iapply (Rounds.wp_send_pointsTo_with 𝒱₀ ER (Rd xs ws) (c : Thread nD τ) none (sS := .dma s₁) (sem := .dma s₂) (κ₁ := K (c, k₁)) (κ₂ := K (dTo c p, dCk p))
      (r₁ := r₁) (r₂ := r₂) (d₁ := false) (d₂ := false) (fs := f) (fd := g) (F := G)
      (by rw [e₁]; exact Finset.mem_singleton_self _) (by rw [e₂]; exact Finset.mem_singleton_self _)
      (dI p) 0 M hM m₁ m₂ (O c (key p + 1)) hO (W := W)
      (BIBase.Entails.trans (by
          unfold owns
          iintro H; iexists f; isplitr; · ipureintro; exact hf
          iexact H) hp₁)
      (BIBase.Entails.trans (by
          unfold owns
          iintro ⟨H, HG⟩; isplitr [HG]
          rotate_left
          · iexact HG
          iexists (dst.view.write (Elt F) g (src.view.read (Elt F) f) Finset.univ); isplitr
          · ipureintro; rw [View.read_write_univ]; exact hf
          iexact H) hp₂)) $$ [Hsrc Hdst HG HO Ht1 Hr1 Ht2 Hr2]
  · isplitr; · iapply i₁; iexact HR
    isplitr; · iapply i₂; iexact HR
    isplitl [Hsrc]; · iexact Hsrc
    isplitl [Hdst HG]
    · isplitl [Hdst]; · iexact Hdst
      iexact HG
    isplitl [HO]; · iexact HO
    isplitl [Ht1]; · iexact Ht1
    isplitl [Hr1]; · iexact Hr1
    isplitl [Ht2]; · iexact Ht2
    iexact Hr2
  iintro ⟨Hc, HO⟩
  iapply (le_wp_ret _ _ _ _ _)
  iapply HQ $$ [Hc] [HO]
  · iexact Hc
  iexists W; iexact HO

/-- A local copy. -/
theorem wp_copy_gen (c : Dev nD) {sp sp' : Space} {s : Shape} {e : EltTy} (src : Memref sig .tc sp s e) (dst : Memref sig .tc sp' s e)
    (k₁ : Ck) (s₁ : DmaSem sig) (h₁ : csem k₁ = .dma s₁)
    {hsrc : src.view.WordExact} {hdst : dst.view.WordExact} {hsem : DmaTarget.Typed sp (.dma s₁) (DmaTarget.here dst : DmaTarget nD τ sig (.tc : Proc τ) sp' s e)}
    (r₁ M : ℕ) (v : s.Idx → Elt F e) (hM : dst.view.dmaCredit = M) (ha₁ : amtK k₁ = M) (hd₁ : dutK k₁ r₁ = {false})
    (hp₁ : iprop(owns (c : Thread nD τ) dst fullShare v ∗ owns (c : Thread nD τ) src fullShare v) ⊢ payK xs ws c k₁ r₁ false) (Q : PUnit → sProp 𝕄) :
    iprop(recs xs ws K ∗ owns (c : Thread nD τ) src fullShare v ∗ any (F := F) c dst
        ∗ dutyTok ER (kcell c k₁) r₁ false ∗ reached ER (kcell c k₁) r₁
        ∗ (cred (tallyAt (kcell c k₁) 0 M) -∗ Q ⟨⟩))
      ⊢ WP c (Prog.lift (.enqueueDma src (.here dst) (.dma s₁) hsrc hdst hsem)) Q := by
  have hc₁ : kcell c k₁ = ((c : Thread nD τ), SemLoc.dma s₁) := by unfold kcell; rw [h₁]
  have i₁ := recs_inv xs ws K c k₁
  have e₁ : (Rd xs ws).duties ((c : Thread nD τ), SemLoc.dma s₁) r₁ = {false} := by rw [← hc₁, Rd_duties, hd₁]
  have m₁ : (Rd xs ws).amount ((c : Thread nD τ), SemLoc.dma s₁) r₁ false = M := by rw [← hc₁, Rd_amount, ha₁]
  rw [← Rd_payload, hc₁] at hp₁
  rw [hc₁] at i₁ ⊢
  unfold any
  iintro ⟨#HR, Hsrc, ⟨%X, Hdst⟩, Ht1, Hr1, HQ⟩
  unfold owns
  icases Hsrc with ⟨%f, %hf, Hsrc⟩
  icases Hdst with ⟨%g, %hg, Hdst⟩
  iapply (Rounds.wp_copy_pointsTo 𝒱₀ ER (Rd xs ws) (c : Thread nD τ) none (sem := .dma s₁) (κ := K (c, k₁))
      (r := r₁) (d := false) (fs := f) (fd := g)
      (by rw [e₁]; exact Finset.mem_singleton_self _)
      0 M hM m₁
      (BIBase.Entails.trans (by
          unfold owns
          iintro ⟨H1, H2⟩
          isplitl [H1]
          · iexists (dst.view.write (Elt F) g (src.view.read (Elt F) f) Finset.univ); isplitr
            · ipureintro; rw [View.read_write_univ]; exact hf
            iexact H1
          · iexists f; isplitr; · ipureintro; exact hf
            iexact H2) hp₁)) $$ [Hsrc Hdst Ht1 Hr1]
  · isplitr; · iapply i₁; iexact HR
    isplitl [Hsrc]; · iexact Hsrc
    isplitl [Hdst]; · iexact Hdst
    isplitl [Ht1]; · iexact Ht1
    iexact Hr1
  iintro Hc
  iapply (le_wp_ret _ _ _ _ _)
  iapply HQ
  iexact Hc

/-- The send of a partial sum. -/
theorem wp_cpC (c : Dev nD) (d : Bool) (j : Fin 8) (s : Fin 7) (σ σ' : Fin 2) (hσ : σ = slot s.val) (hσ' : σ' = slot (s.val + 1)) (Q : PUnit → sProp 𝕄) :
    iprop(recs xs ws K ∗ chOwn c (d, j) σ (acc xs ws (d, j) s.val c) ∗ any (F := F) (dn c d) (chM d σ' j) ∗ reached ER (kcell c (.crd d j)) s.val ∗ ow (F := F) c (key (D.copy (d, j) s))
        ∗ dutyTok ER (kcell c (.snd d σ j)) (s.val / 2) false ∗ reached ER (kcell c (.snd d σ j)) (s.val / 2)
        ∗ dutyTok ER (kcell (dn c d) (.rcv d σ' j)) (s.val / 2) false ∗ reached ER (kcell (dn c d) (.rcv d σ' j)) (s.val / 2)
        ∗ (cred (tallyAt (kcell c (.snd d σ j)) 0 N) -∗ ow (F := F) c (key (D.copy (d, j) s) + 1) -∗ Q ⟨⟩))
      ⊢ WP c (cpC c d σ σ' j) Q := by
  subst hσ hσ'
  have hs := s.isLt
  refine wp_send_gen xs ws K c (dn c d) (chM d (slot s.val) j) (chM d (slot (s.val + 1)) j) (.snd d (slot s.val) j) (.rcv d (slot (s.val + 1)) j)
    (sendS d (slot s.val) j) (recvS d (slot (s.val + 1)) j) rfl rfl (D.copy (d, j) s) rfl rfl (s.val / 2) (s.val / 2) N fullShare
    (acc xs ws (d, j) s.val c) (credit_ch _ _ _) rfl rfl rfl ?_ ?_ ?_ (reached ER (kcell c (.crd d j)) s.val) ?_ Q
  · simp only [dutK]; rw [if_pos (by omega)]
  · simp only [dutK]; rw [if_pos (by omega)]
  · simp only [payK]; rw [show 2 * (s.val / 2) + s.val % 2 = s.val from by omega]; exact .rfl
  · simp only [payK]; rw [show 2 * (s.val / 2) + 1 - (s.val + 1) % 2 = s.val from by omega, up_dn]; exact .rfl

/-- The send of the greatest magnitude `k` devices on. -/
theorem wp_cpR (c : Dev nD) (k : Fin 7) (q : PosShare TreeShare) (hq : q = pieceSh k.val) (Q : PUnit → sProp 𝕄) :
    iprop(recs xs ws K ∗ rowOwn c 0 q (amaxv xs ws c) ∗ any (F := F) (sh c (k.val + 1)) (rowM k.succ) ∗ ow (F := F) c (key (D.row k))
        ∗ dutyTok ER (kcell c (.asnd k.succ)) 0 false ∗ reached ER (kcell c (.asnd k.succ)) 0
        ∗ dutyTok ER (kcell (sh c (k.val + 1)) (.arcv k.succ)) 0 false ∗ reached ER (kcell (sh c (k.val + 1)) (.arcv k.succ)) 0
        ∗ (cred (tallyAt (kcell c (.asnd k.succ)) 0 NA) -∗ ow (F := F) c (key (D.row k) + 1) -∗ Q ⟨⟩))
      ⊢ WP c (Prog.lift (.enqueueDma (rowM 0) (.remote (Dev.tc (tgt c k.succ)) (rowM k.succ) (.dma (asndS k.succ))) (.dma (arcvS k.succ))
    (View.wordExact_bits rfl) (View.wordExact_bits rfl) ⟨⟨rfl, Or.inl rfl⟩, trivial⟩)) Q := by
  subst hq
  have hk := k.isLt
  have hne : k.succ ≠ 0 := Fin.succ_ne_zero k
  rw [tgt_eq]
  refine BIBase.Entails.trans (sep_mono_right (sep_mono_right (sep_mono_right (emp_sep (PROP := sProp 𝕄)).2))) ?_
  refine wp_send_gen xs ws K c (sh c (k.val + 1)) (rowM 0) (rowM k.succ) (.asnd k.succ) (.arcv k.succ)
    (asndS k.succ) (arcvS k.succ) rfl rfl (D.row k) rfl rfl 0 0 NA (pieceSh k.val)
    (rowOf (amaxv xs ws c)) (credit_row _) rfl rfl rfl ?_ ?_ ?_ iprop(emp) ?_ Q
  · simp only [dutK]; rw [if_pos ⟨hne, trivial⟩]
  · simp only [dutK]; rw [if_pos ⟨hne, trivial⟩]
  · simp only [payK, Fin.val_succ, Nat.add_sub_cancel]; exact .rfl
  · simp only [payK, Fin.val_succ]; rw [sh_sh, show k.val + 1 + (8 - (k.val + 1)) = 8 from by omega, sh_eight]; exact (sep_emp (PROP := sProp 𝕄)).1

/-- The write of a finished chunk to the result. -/
theorem wp_cpO (c : Dev nD) (d : Bool) (j : Fin 8) (Q : PUnit → sProp 𝕄) :
    iprop(recs xs ws K ∗ chOwn c (d, j) 0 (ov xs ws c (d, j)) ∗ any (F := F) c (outM d j)
        ∗ dutyTok ER (kcell c (.out d j)) 0 false ∗ reached ER (kcell c (.out d j)) 0
        ∗ (cred (tallyAt (kcell c (.out d j)) 0 NO) -∗ Q ⟨⟩))
      ⊢ WP c (Prog.lift (.enqueueDma (chM d 0 j) (.here (outM d j)) (.dma (outS d j))
    ((View.wordExact_bits rfl).reshape _ _) (View.wordExact_bits rfl) ⟨Or.inl rfl, trivial⟩)) Q := by
  exact wp_copy_gen xs ws K c (chM d 0 j) (outM d j) (.out d j) (outS d j) rfl 0 NO
    (ov xs ws c (d, j)) (credit_out _ _) rfl rfl .rfl Q

end Facts

end Cert.KernelIdeal.Own

end
-- ==== Proof.Steps.lean ====
/- One chunk's step of a round, from what the chunk's channel holds before it to what it holds after. -/
module

public import proofs.«01_k».proof.Proof.Rules

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families consumed in order -/

/-- The members of a family from the `m`-th on. -/
def rest {n : ℕ} (Φ : Fin n → sProp 𝕄) (m : ℕ) : sProp 𝕄 := bigSep Finset.univ fun i : Fin n => if m ≤ i.val then Φ i else iprop(emp)

theorem rest_zero {n : ℕ} (Φ : Fin n → sProp 𝕄) : rest Φ 0 = bigSep Finset.univ Φ := by
  unfold rest
  exact bigSep_congr fun i _ => if_pos (Nat.zero_le _)

theorem rest_take {n : ℕ} (Φ : Fin n → sProp 𝕄) (s : Fin n) (m : ℕ) (h : s.val = m) : rest Φ m ⊢ iprop(Φ s ∗ rest Φ (m + 1)) := by
  subst h
  unfold rest
  rw [bigSep_univ_at (fun i : Fin n => if s.val ≤ i.val then Φ i else iprop(emp)) s,
    bigSep_univ_at (fun i : Fin n => if s.val + 1 ≤ i.val then Φ i else iprop(emp)) s, if_pos le_rfl, if_neg (by omega : ¬ s.val + 1 ≤ s.val)]
  have e : bigSep (Finset.univ.erase s) (fun i : Fin n => if s.val ≤ i.val then Φ i else iprop(emp))
      = bigSep (Finset.univ.erase s) (fun i : Fin n => if s.val + 1 ≤ i.val then Φ i else iprop(emp)) :=
    bigSep_congr fun i hi => by
      have : i.val ≠ s.val := fun h => (Finset.ne_of_mem_erase hi) (Fin.ext h)
      by_cases h : s.val ≤ i.val
      · rw [if_pos h, if_pos (by omega)]
      · rw [if_neg h, if_neg (by omega)]
  rw [e]
  iintro ⟨H, HR⟩
  isplitl [H]; · iexact H
  isplitr; · iempintro
  iexact HR

variable (xs : Dev nD → XC F) (ws : Dev nD → WC F)

/-! ## A channel -/

/-- The credit that the copy of step `s` will arrive. -/
def crRes (c : Dev nD) (d : Bool) (j : Fin 8) (s : Fin 7) : sProp 𝕄 :=
  cred (tallyAt (kcell c (.rcv d (slot (s.val + 1)) j)) s.val N)
/-- What sending the copy of step `s` takes. -/
def tokRes (c : Dev nD) (d : Bool) (j : Fin 8) (s : Fin 7) : sProp 𝕄 :=
  iprop(dutyTok ER (kcell c (.snd d (slot s.val) j)) (s.val / 2) false
    ∗ dutyTok ER (kcell (dn c d) (.rcv d (slot (s.val + 1)) j)) (s.val / 2) false)
/-- What step `s` needs for its credit exchange. -/
def credRes (c : Dev nD) (d : Bool) (j : Fin 8) (s : Fin 6) : sProp 𝕄 :=
  iprop(cred (tallyAt (kcell c (.crd d j)) s.val 1) ∗ dutyTok ER (kcell (up c d) (.crd d j)) s.val false)

/-- The rows a device may write, which ride on one channel: at step `s` those of the devices up to `s + 1` on. -/
def ext (c : Dev nD) (ch : Ch) (s : ℕ) : sProp 𝕄 :=
  if ch = (false, 0) then bigSep Finset.univ fun k : Fin 7 => any (F := F) (sh c (min (k.val + 1) (s + 1))) (rowM k.succ) else iprop(emp)

theorem ext_step (c : Dev nD) (d : Bool) (j : Fin 8) (s : ℕ) :
    ext (F := F) c (d, j) s ⊢ iprop(crdExt (F := F) (up c d) (d, j) s ∗ (crdExt (F := F) c (d, j) s -∗ ext (F := F) c (d, j) (s + 1))) := by
  unfold ext crdExt
  by_cases h : ((d, j) : Ch) = (false, 0)
  · rw [if_pos h, if_pos h, if_pos h, if_pos h]
    obtain ⟨rfl, rfl⟩ : d = false ∧ j = 0 := by simpa using h
    rw [up_false, sh_sh, show 7 + (s + 2) = (s + 1) + 8 from by omega, sh_add_eight]
    unfold rowsFrom
    have h1 : (bigSep Finset.univ fun k : Fin 7 => any (F := F) (sh c (min (k.val + 1) (s + 1))) (rowM k.succ))
        ⊢ iprop((bigSep Finset.univ fun k : Fin 7 => if s + 2 ≤ k.val + 1 then any (F := F) (sh c (s + 1)) (rowM k.succ) else iprop(emp))
          ∗ (bigSep Finset.univ fun k : Fin 7 => if s + 2 ≤ k.val + 1 then iprop(emp) else any (F := F) (sh c (k.val + 1)) (rowM k.succ))) := by
      rw [← bigSep_sep']
      refine bigSep_mono fun k _ => ?_
      by_cases hk : s + 2 ≤ k.val + 1
      · rw [if_pos hk, if_pos hk, show min (k.val + 1) (s + 1) = s + 1 from by omega]; exact (sep_emp (PROP := sProp 𝕄)).2
      · rw [if_neg hk, if_neg hk, show min (k.val + 1) (s + 1) = k.val + 1 from by omega]; exact (emp_sep (PROP := sProp 𝕄)).2
    have h2 : iprop((bigSep Finset.univ fun k : Fin 7 => if s + 2 ≤ k.val + 1 then any (F := F) (sh c (s + 2)) (rowM k.succ) else iprop(emp))
          ∗ (bigSep Finset.univ fun k : Fin 7 => if s + 2 ≤ k.val + 1 then iprop(emp) else any (F := F) (sh c (k.val + 1)) (rowM k.succ)))
        ⊢ (bigSep Finset.univ fun k : Fin 7 => any (F := F) (sh c (min (k.val + 1) (s + 1 + 1))) (rowM k.succ)) := by
      rw [← bigSep_sep']
      refine bigSep_mono fun k _ => ?_
      by_cases hk : s + 2 ≤ k.val + 1
      · rw [if_pos hk, if_pos hk, show min (k.val + 1) (s + 1 + 1) = s + 2 from by omega]; exact (sep_emp (PROP := sProp 𝕄)).1
      · rw [if_neg hk, if_neg hk, show min (k.val + 1) (s + 1 + 1) = k.val + 1 from by omega]; exact (emp_sep (PROP := sProp 𝕄)).1
    iintro H
    ihave H := h1 $$ H
    icases H with ⟨H, HR⟩
    isplitl [H]; · iexact H
    iintro H
    iapply h2
    isplitl [H]; · iexact H
    iexact HR
  · rw [if_neg h, if_neg h, if_neg h, if_neg h]
    iintro -
    isplitr; · iempintro
    iintro -
    iempintro

/-- The positions of a channel's cells before step `s`. -/
def posn (c : Dev nD) (d : Bool) (j : Fin 8) (s : ℕ) : sProp 𝕄 :=
  iprop(atPos ER (kcell c (.rcv d (slot (s + 1)) j)) (s / 2) ∅ 0 ∗ atPos ER (kcell c (.rcv d (slot s) j)) ((s + 1) / 2) ∅ 0
    ∗ atPos ER (kcell c (.snd d (slot s) j)) (s / 2) ∅ 0 ∗ atPos ER (kcell c (.snd d (slot (s + 1)) j)) ((s + 1) / 2) ∅ 0)

/-- A channel before step `s`: the copy of step `s` is on its way. -/
def St (s : ℕ) (c : Dev nD) (d : Bool) (j : Fin 8) : sProp 𝕄 :=
  iprop(posn (F := F) c d j s ∗ atPos ER (kcell c (.crd d j)) s ∅ 0
    ∗ reached ER (kcell c (.snd d (slot (s + 1)) j)) ((s + 1) / 2) ∗ reached ER (kcell c (.rcv d (slot s) j)) ((s + 1) / 2)
    ∗ cred (tallyAt (kcell c (.snd d (slot s) j)) 0 N)
    ∗ rest (crRes (F := F) c d j) s ∗ rest (tokRes (F := F) c d j) (s + 1) ∗ rest (credRes (F := F) c d j) s ∗ ext (F := F) c (d, j) s)

/-- A channel at the start. -/
def St0 (c : Dev nD) (d : Bool) (j : Fin 8) : sProp 𝕄 :=
  iprop(posn (F := F) c d j 0 ∗ atPos ER (kcell c (.crd d j)) 0 ∅ 0
    ∗ any (F := F) c (chM d 0 j) ∗ any (F := F) (dn c d) (chM d 1 j)
    ∗ rest (crRes (F := F) c d j) 0 ∗ rest (tokRes (F := F) c d j) 0 ∗ rest (credRes (F := F) c d j) 0 ∗ ext (F := F) c (d, j) 0)

/-- A channel when its sum is complete. -/
def StF (c : Dev nD) (d : Bool) (j : Fin 8) : sProp 𝕄 :=
  iprop(posn (F := F) c d j 7 ∗ atPos ER (kcell c (.crd d j)) 6 ∅ 0
    ∗ chOwn c (d, j) 0 (yv xs ws c (d, j)) ∗ any (F := F) c (chM d 1 j) ∗ ext (F := F) c (d, j) 6)

def wPts (c : Dev nD) : sProp 𝕄 := iprop(((c : Thread nD τ).loc cc0_stg1_0) ↦{fullShare} (ws c))
def xPts (c : Dev nD) : sProp 𝕄 := iprop(((c : Thread nD τ).loc cc0_stg0_0) ↦{fullShare} (xs c))

section Ops
variable (K : Dev nD × Ck → ℕ)

theorem key_copy0 (ch : Ch) : key (D.copy ch 0) = 2 + num ch := rfl
theorem key_cred (ch : Ch) (s : Fin 6) : key (D.cred ch s) = 18 + 2 * (16 * s.val + num ch) := rfl
theorem key_copy (ch : Ch) (s : Fin 6) : key (D.copy ch s.succ) = 18 + 2 * (16 * s.val + num ch) + 1 := by
  simp only [key, Fin.val_succ]; rw [if_neg (by omega), Nat.add_sub_cancel]

theorem initOp_step (c : Dev nD) (d : Bool) (j : Fin 8) (Q : PUnit → sProp 𝕄) :
    iprop(recs xs ws K ∗ wPts ws c ∗ St0 c d j ∗ ow (F := F) c (2 + num (d, j))
        ∗ (wPts ws c -∗ St 0 c d j -∗ ow (F := F) c (2 + num (d, j) + 1) -∗ Q ⟨⟩))
      ⊢ WP c (initOp c (xv0 xs c d) d j) Q := by
  unfold initOp St0 wPts
  simp only [wp_bind]
  iintro ⟨#HR, Hw, ⟨Hpos, Hcrd, Hch, Hdn, Hcr, Htok, Hcd, Hext⟩, HO, HQ⟩
  iapply (wp_ldW ws c d j)
  isplitl [Hw]; · iexact Hw
  iintro Hw
  iapply (wp_ldC_any c d 0 j)
  isplitl [Hch]; · iexact Hch
  iintro %w Hch
  iapply (wp_stC c d 0 j)
  isplitl [Hch]; · iexact Hch
  iintro Hch
  ihave Htok := rest_take (tokRes (F := F) c d j) 0 0 rfl $$ Htok
  icases Htok with ⟨Ht, Htok⟩
  unfold tokRes
  icases Ht with ⟨Ht1, Ht2⟩
  iapply (wp_cpC xs ws K c d j 0 0 1 rfl rfl)
  isplitr; · iexact HR
  isplitl [Hch]; · iexact Hch
  isplitl [Hdn]; · iexact Hdn
  isplitr; · iapply (recs_reached xs ws K c (.crd d j)); iexact HR
  isplitl [HO]; · iexact HO
  isplitl [Ht1]; · iexact Ht1
  isplitr; · iapply (recs_reached xs ws K c (.snd d 0 j)); iexact HR
  isplitl [Ht2]; · iexact Ht2
  isplitr; · iapply (recs_reached xs ws K (dn c d) (.rcv d 1 j)); iexact HR
  iintro Hc HO
  iapply HQ $$ [Hw] [Hpos Hcrd Hcr Htok Hcd Hext Hc] [HO]
  · iexact Hw
  · unfold St
    isplitl [Hpos]; · iexact Hpos
    isplitl [Hcrd]; · iexact Hcrd
    isplitr; · iapply (recs_reached xs ws K c (.snd d 1 j)); iexact HR
    isplitr; · iapply (recs_reached xs ws K c (.rcv d 0 j)); iexact HR
    isplitl [Hc]; · iexact Hc
    isplitl [Hcr]; · iexact Hcr
    isplitl [Htok]; · iexact Htok
    isplitl [Hcd]; · iexact Hcd
    iexact Hext
  · iexact HO

theorem st_cast (s : Fin 6) : st s.val = s.castSucc := Fin.ext (Nat.mod_eq_of_lt (by omega))

theorem midOp_step (c : Dev nD) (s : Fin 6) (d : Bool) (j : Fin 8) (Q : PUnit → sProp 𝕄) :
    iprop(recs xs ws K ∗ wPts ws c ∗ St s.val c d j ∗ ow (F := F) c (18 + 2 * (16 * s.val + num (d, j)))
        ∗ (wPts ws c -∗ St (s.val + 1) c d j -∗ ow (F := F) c (18 + 2 * (16 * s.val + num (d, j)) + 1 + 1) -∗ Q ⟨⟩))
      ⊢ WP c (midOp c s.castSucc (xv xs c s.castSucc d) d j) Q := by
  unfold midOp St posn wPts
  simp only [wp_bind]
  have hs := s.isLt
  have hnum := num_lt (d, j)
  iintro ⟨#HR, Hw, ⟨⟨Hp1, Hp2, Hp3, Hp4⟩, Hcrd, Hrs, #Hrr, Hc, Hcr, Htok, Hcd, Hext⟩, HO, HQ⟩
  iapply (wp_ldW ws c d j)
  isplitl [Hw]; · iexact Hw
  iintro Hw
  -- the copy of this step arrives
  ihave Hcr := rest_take (crRes (F := F) c d j) s.castSucc s.val rfl $$ Hcr
  icases Hcr with ⟨Hcr1, Hcr⟩
  unfold crRes
  iapply (wp_wtC xs ws K c (.rcv d (slot (s.val + 1)) j) (recvS d (slot (s.val + 1)) j) rfl rfl d _ _ j (s.val / 2) s.val
    (18 + 2 * (16 * s.val + num (d, j)))
    (by simp only [dutK]; rw [if_pos (by omega)]) (by omega)
    (fun e he => lv_due_recv e _ (by omega) he))
  isplitr; · iexact HR
  isplitl [Hcr1]; · iexact Hcr1
  isplitl [HO]; · iexact HO
  isplitl [Hp1]; · iexact Hp1
  iintro HO Hp1 #Hrr' Hpay
  simp only [payK]
  rw [show 2 * (s.val / 2) + 1 - (s.val + 1) % 2 = s.val from by omega]
  icases Hpay with ⟨Hch, #Hru⟩
  -- this device's product is added
  iapply (wp_ldC c d (slot (s.val + 1)) j)
  isplitl [Hch]; · iexact Hch
  iintro %w %hw Hch
  ihave Hch := chOwn_any c d j (slot (s.val + 1)) _ $$ Hch
  iapply (wp_ldC_any c d (slot (s.val + 1)) j)
  isplitl [Hch]; · iexact Hch
  iintro %w' Hch
  iapply (wp_stC c d (slot (s.val + 1)) j)
  isplitl [Hch]; · iexact Hch
  iintro Hch
  rw [hw]
  -- the last send is over
  iapply (wp_wtC xs ws K c (.snd d (slot s.val) j) (sendS d (slot s.val) j) rfl rfl d _ _ j (s.val / 2) 0
    (18 + 2 * (16 * s.val + num (d, j)))
    (by simp only [dutK]; rw [if_pos (by omega)]) (by omega)
    (fun e he => lv_due_pos e))
  isplitr; · iexact HR
  isplitl [Hc]; · iexact Hc
  isplitl [HO]; · iexact HO
  isplitl [Hp3]; · iexact Hp3
  iintro HO Hp3 #Hrs' Hold
  simp only [payK]
  ihave Hold := chOwn_any c d j (slot s.val) _ $$ Hold
  -- its slot goes to the up neighbour
  ihave Hcd := rest_take (credRes (F := F) c d j) s s.val rfl $$ Hcd
  icases Hcd with ⟨Hcd1, Hcd⟩
  unfold credRes
  icases Hcd1 with ⟨Hcc, Hct⟩
  ihave Hext := ext_step c d j s.val $$ Hext
  icases Hext with ⟨Hx1, Hext⟩
  iapply (wp_sig xs ws K c (D.cred (d, j) s) (credS d j) (up c d) rfl rfl false s.val
    (by simp only [dCk, dutK]; rw [if_pos hs]; exact Finset.mem_singleton_self _) rfl rfl)
  isplitr; · iexact HR
  isplitl [HO]; · iexact HO
  isplitl [Hct]; · iexact Hct
  isplitl [Hold Hx1]
  · simp only [dCk, payK, crdPay]
    rw [dn_up]
    isplitl [Hold]; · iexact Hold
    isplitr; · iexact Hrr
    iexact Hx1
  isplitr; · iexact Hru
  iintro HO
  rw [key_cred]
  -- and the down neighbour's slot is free
  iapply (wp_wait1 xs ws K c (.crd d j) s.val s.val (18 + 2 * (16 * s.val + num (d, j)) + 1) _
    (wpE_semWait_eq 𝒱₀ (c : Thread nD τ) none Set.univ) rfl
    (by simp only [dutK]; rw [if_pos hs]) (by omega)
    (fun e he => lv_due_cred e _ (by omega) he))
  isplitr; · iexact HR
  isplitl [Hcc]; · iexact Hcc
  isplitl [HO]; · iexact HO
  isplitl [Hcrd]; · iexact Hcrd
  iintro HO Hcrd #Hrc Hpay
  simp only [payK, crdPay]
  icases Hpay with ⟨Hdn, #Hrd, Hx2⟩
  ihave Hext := Hext $$ Hx2
  -- the sum goes on
  ihave Htok := rest_take (tokRes (F := F) c d j) s.succ (s.val + 1) rfl $$ Htok
  icases Htok with ⟨Ht, Htok⟩
  unfold tokRes
  icases Ht with ⟨Ht1, Ht2⟩
  iapply (wp_cpC xs ws K c d j s.succ (slot (s.val + 1)) (slot s.val) rfl (Fin.ext (by simp only [Fin.val_succ]; omega)))
  isplitr; · iexact HR
  isplitl [Hch]
  · simp only [Fin.val_succ, acc]; rw [st_cast]; iexact Hch
  isplitl [Hdn]; · iexact Hdn
  isplitr; · iexact Hrc
  isplitl [HO]; · rw [key_copy]; iexact HO
  isplitl [Ht1]; · iexact Ht1
  isplitl [Hrs]; · iexact Hrs
  have e2 : slot (s.val + 1 + 1) = slot s.val := Fin.ext (by simp only []; omega)
  have e3 : (s.val + 1 + 1) / 2 = s.val / 2 + 1 := by omega
  isplitl [Ht2]; · simp only [Fin.val_succ]; rw [e2]; iexact Ht2
  isplitr; · iexact Hrd
  iintro Hc HO
  iapply HQ $$ [Hw] [Hp1 Hp2 Hp3 Hp4 Hcrd Hcr Htok Hcd Hext Hc] [HO]
  · iexact Hw
  · rw [e2, e3]
    isplitl [Hp1 Hp2 Hp3 Hp4]
    · isplitl [Hp2]; · iexact Hp2
      isplitl [Hp1]; · iexact Hp1
      isplitl [Hp4]; · iexact Hp4
      iexact Hp3
    isplitl [Hcrd]; · iexact Hcrd
    isplitr; · iexact Hrs'
    isplitr; · iexact Hrr'
    isplitl [Hc]; · iexact Hc
    isplitl [Hcr]; · iexact Hcr
    isplitl [Htok]; · iexact Htok
    isplitl [Hcd]; · iexact Hcd
    iexact Hext
  · rw [key_copy]; iexact HO

theorem lastOp_step (c : Dev nD) (am : F .f32) (d : Bool) (j : Fin 8) (Q : F .f32 → sProp 𝕄) :
    iprop(recs xs ws K ∗ wPts ws c ∗ St 6 c d j ∗ ow (F := F) c 210
        ∗ (wPts ws c -∗ StF xs ws c d j -∗ ow (F := F) c 210 -∗ Q (amaxStep am (yv xs ws c (d, j)))))
      ⊢ WP c (lastOp c (xv xs c 6 d) d am j) Q := by
  unfold lastOp St StF posn wPts
  simp only [wp_bind]
  have hnum := num_lt (d, j)
  iintro ⟨#HR, Hw, ⟨⟨Hp1, Hp2, Hp3, Hp4⟩, Hcrd, Hrs, #Hrr, Hc, Hcr, Htok, Hcd, Hext⟩, HO, HQ⟩
  iapply (wp_ldW ws c d j)
  isplitl [Hw]; · iexact Hw
  iintro Hw
  ihave Hcr := rest_take (crRes (F := F) c d j) 6 6 rfl $$ Hcr
  icases Hcr with ⟨Hcr1, Hcr⟩
  unfold crRes
  iapply (wp_wtC xs ws K c (.rcv d 1 j) (recvS d 1 j) rfl rfl d _ _ j 3 6 210
    rfl (by omega) (fun e he => by
      have h := lv_due_recv e (96 + num (d, j)) (by omega)
      rcases e with b | ⟨ch, s⟩ | ⟨ch, s⟩ | k <;> simp only [dCk, dI, lvK, key] at he h ⊢
      · have := bool_toNat_lt b; omega
      · have := num_lt ch; have := s.isLt; split at he <;> omega
      · have := num_lt ch; have := s.isLt; omega
      · omega))
  isplitr; · iexact HR
  isplitl [Hcr1]; · iexact Hcr1
  isplitl [HO]; · iexact HO
  isplitl [Hp1]; · iexact Hp1
  iintro HO Hp1 - Hpay
  simp only [payK]
  icases Hpay with ⟨Hch, -⟩
  iapply (wp_wtC xs ws K c (.snd d 0 j) (sendS d 0 j) rfl rfl d _ _ j 3 0 210
    rfl (by omega) (fun e he => lv_due_pos e))
  isplitr; · iexact HR
  isplitl [Hc]; · iexact Hc
  isplitl [HO]; · iexact HO
  isplitl [Hp3]; · iexact Hp3
  iintro HO Hp3 - Hold
  simp only [payK]
  ihave Hold := chOwn_any c d j 0 _ $$ Hold
  iapply (wp_ldC c d 1 j)
  isplitl [Hch]; · iexact Hch
  iintro %w %hw Hch
  iapply (wp_ldC_any c d 0 j)
  isplitl [Hold]; · iexact Hold
  iintro %w' Hold
  iapply (wp_stC c d 0 j)
  isplitl [Hold]; · iexact Hold
  iintro Hold
  rw [hw]
  ihave Hch := chOwn_any c d j 1 _ $$ Hch
  iapply (le_wp_ret _ _ _ _ _)
  have e : addf (acc xs ws (d, j) (2 * 3 + 1 - (1 : Fin 2).val) (up c d)) (dot3 (xv xs c 6 d) (wv ws c (d, j)))
      = yv xs ws c (d, j) := rfl
  rw [e]
  iapply HQ $$ [Hw] [Hp1 Hp2 Hp3 Hp4 Hcrd Hold Hch Hext] [HO]
  · iexact Hw
  · isplitl [Hp1 Hp2 Hp3 Hp4]
    · isplitl [Hp2]; · iexact Hp2
      isplitl [Hp1]; · iexact Hp1
      isplitl [Hp4]; · iexact Hp4
      iexact Hp3
    isplitl [Hcrd]; · iexact Hcrd
    isplitl [Hold]; · iexact Hold
    isplitl [Hch]; · iexact Hch
    iexact Hext
  · iexact HO

end Ops

end Cert.KernelIdeal.Own

end
-- ==== Proof.Loops.lean ====
/- The rounds: every chunk's step in order, both directions of a ring in turn. -/
module

public import proofs.«01_k».proof.Proof.Steps

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Loops -/

section Loops
variable {α β : Type} (c : Dev nD)

theorem seqL_run (f : α → BP F PUnit) (R : sProp 𝕄) [BI.Persistent R] (S : ℕ → sProp 𝕄) (l : List α) :
    ∀ (n : ℕ) (Q : PUnit → sProp 𝕄)
      (h : ∀ (i : ℕ) (hi : i < l.length) (Q : PUnit → sProp 𝕄), iprop(R ∗ S (n + i) ∗ (S (n + i + 1) -∗ Q ⟨⟩)) ⊢ WP c (f l[i]) Q),
      iprop(R ∗ S n ∗ (S (n + l.length) -∗ Q ⟨⟩)) ⊢ WP c (seqL l f) Q := by
  induction l with
  | nil =>
    intro n Q h
    show _ ⊢ WP c (.ret ⟨⟩) Q
    iintro ⟨-, H, HQ⟩
    iapply (le_wp_ret _ _ _ _ _)
    iapply HQ; iexact H
  | cons a l ih =>
    intro n Q h
    show _ ⊢ WP c (f a >>= fun _ => seqL l f) Q
    rw [WP, wp_bind]
    iintro ⟨#HR, H, HQ⟩
    iapply (h 0 (Nat.succ_pos _) (fun _ => WP c (seqL l f) Q))
    isplitr; · iexact HR
    isplitl [H]; · iexact H
    iintro H
    iapply (ih (n + 1) Q (fun i hi Q => by
      have := h (i + 1) (Nat.succ_lt_succ hi) Q
      rw [show n + (i + 1) = n + 1 + i from by omega] at this
      exact this))
    isplitr; · iexact HR
    isplitl [H]; · iexact H
    rw [show n + 1 + l.length = n + (l.length + 1) from by omega]
    iexact HQ

theorem foldL_run (f : β → α → BP F β) (R : sProp 𝕄) [BI.Persistent R] (S : ℕ → sProp 𝕄) (v : ℕ → β) (l : List α) :
    ∀ (n : ℕ) (Q : β → sProp 𝕄)
      (h : ∀ (i : ℕ) (hi : i < l.length) (Q : β → sProp 𝕄), iprop(R ∗ S (n + i) ∗ (S (n + i + 1) -∗ Q (v (n + i + 1)))) ⊢ WP c (f (v (n + i)) l[i]) Q),
      iprop(R ∗ S n ∗ (S (n + l.length) -∗ Q (v (n + l.length)))) ⊢ WP c (foldL l (v n) f) Q := by
  induction l with
  | nil =>
    intro n Q h
    show _ ⊢ WP c (.ret (v n)) Q
    iintro ⟨-, H, HQ⟩
    iapply (le_wp_ret _ _ _ _ _)
    iapply HQ; iexact H
  | cons a l ih =>
    intro n Q h
    show _ ⊢ WP c (f (v n) a >>= fun b => foldL l b f) Q
    rw [WP, wp_bind]
    iintro ⟨#HR, H, HQ⟩
    iapply (h 0 (Nat.succ_pos _) (fun b => WP c (foldL l b f) Q))
    isplitr; · iexact HR
    isplitl [H]; · iexact H
    iintro H
    iapply (ih (n + 1) Q (fun i hi Q => by
      have := h (i + 1) (Nat.succ_lt_succ hi) Q
      rw [show n + (i + 1) = n + 1 + i from by omega] at this
      exact this))
    isplitr; · iexact HR
    isplitl [H]; · iexact H
    rw [show n + 1 + l.length = n + (l.length + 1) from by omega]
    iexact HQ

end Loops

/-! ## Families turned over in order -/

section Mix
variable {ι : Type} [Fintype ι] [DecidableEq ι] (pos : ι → ℕ)

/-- The members before position `q` turned over to `B`, the others still `A`. -/
def mix (A B : ι → sProp 𝕄) (q : ℕ) : sProp 𝕄 := bigSep Finset.univ fun i => if pos i < q then B i else A i

theorem mix_zero (A B : ι → sProp 𝕄) : mix pos A B 0 = bigSep Finset.univ A :=
  bigSep_congr fun i _ => if_neg (Nat.not_lt_zero _)
theorem mix_all (A B : ι → sProp 𝕄) (q : ℕ) (h : ∀ i, pos i < q) : mix pos A B q = bigSep Finset.univ B :=
  bigSep_congr fun i _ => if_pos (h i)

theorem mix_take (hinj : Function.Injective pos) (A B : ι → sProp 𝕄) (i : ι) (q : ℕ) (h : pos i = q) :
    mix pos A B q ⊢ iprop(A i ∗ (B i -∗ mix pos A B (q + 1))) := by
  subst h
  unfold mix
  rw [bigSep_univ_at (fun k => if pos k < pos i then B k else A k) i, bigSep_univ_at (fun k => if pos k < pos i + 1 then B k else A k) i,
    if_neg (Nat.lt_irrefl _), if_pos (Nat.lt_succ_self _)]
  have e : bigSep (Finset.univ.erase i) (fun k => if pos k < pos i then B k else A k)
      = bigSep (Finset.univ.erase i) (fun k => if pos k < pos i + 1 then B k else A k) :=
    bigSep_congr fun k hk => by
      have : pos k ≠ pos i := fun h => (Finset.ne_of_mem_erase hk) (hinj h)
      by_cases h : pos k < pos i
      · rw [if_pos h, if_pos (by omega)]
      · rw [if_neg h, if_neg (by omega)]
  rw [e]
  iintro ⟨H, HR⟩
  isplitl [H]; · iexact H
  iintro H
  isplitl [H]; · iexact H
  iexact HR

end Mix

theorem js_get (i : ℕ) (hi : i < js.length) : js[i] = (⟨i, hi⟩ : Fin 8) := by
  have : ∀ k : Fin 8, js[k.val] = k := by decide
  exact this ⟨i, hi⟩

theorem ks_get (i : ℕ) (hi : i < ks.length) : ks[i] = (Fin.succ (⟨i, hi⟩ : Fin 7) : Fin 8) := by
  have : ∀ k : Fin 7, ks[k.val] = k.succ := by decide
  exact this ⟨i, hi⟩

theorem val_inj {n : ℕ} : Function.Injective (fun i : Fin n => i.val) := fun a b h => Fin.ext h

variable (xs : Dev nD → XC F) (ws : Dev nD → WC F)

/-! ## Both directions of every chunk in order -/

/-- Every chunk in order, both directions in turn. -/
def pairs (op : Bool → Fin 8 → BP F PUnit) : BP F PUnit := seqL js fun j => do op false j; op true j
/-- The same, passing a value on. -/
def folds (a : F .f32) (op : Bool → F .f32 → Fin 8 → BP F (F .f32)) : BP F (F .f32) :=
  foldL js a fun am j => do
    let am ← op false am j
    op true am j

theorem pair_run (c : Dev nD) (op : Bool → Fin 8 → BP F PUnit) (R : sProp 𝕄) [BI.Persistent R] (A B : Ch → sProp 𝕄) (I : ℕ → sProp 𝕄)
    (h : ∀ (d : Bool) (j : Fin 8) (Q : PUnit → sProp 𝕄),
      iprop(R ∗ A (d, j) ∗ I (num (d, j)) ∗ (B (d, j) -∗ I (num (d, j) + 1) -∗ Q ⟨⟩)) ⊢ WP c (op d j) Q) (Q : PUnit → sProp 𝕄) :
    iprop(R ∗ (bigSep Finset.univ A) ∗ I 0 ∗ ((bigSep Finset.univ B) -∗ I 16 -∗ Q ⟨⟩))
      ⊢ WP c (pairs op) Q := by
  unfold pairs
  have key := seqL_run c (fun j => do op false j; op true j) R (fun n => iprop(mix num A B (2 * n) ∗ I (2 * n))) js 0 Q (by
    intro i hi Q
    rw [js_get i hi]
    generalize hj : (⟨i, hi⟩ : Fin 8) = j
    have e : i = j.val := by rw [← hj]
    subst e
    show _ ⊢ WP c (op false j >>= fun _ => op true j) Q
    rw [WP, wp_bind]
    have e0 : num (false, j) = 2 * j.val := rfl
    have e1 : num (true, j) = 2 * j.val + 1 := rfl
    have h0 := h false j
    have h1 := h true j
    rw [e0] at h0
    rw [e1] at h1
    rw [Nat.zero_add, show 2 * (j.val + 1) = 2 * j.val + 1 + 1 from by omega]
    iintro ⟨#HR, ⟨HM, HI⟩, HQ⟩
    ihave HM := mix_take num num_inj A B (false, j) _ e0 $$ HM
    icases HM with ⟨HA, HM⟩
    iapply (h0 (fun _ => WP c (op true j) Q))
    isplitr; · iexact HR
    isplitl [HA]; · iexact HA
    isplitl [HI]; · iexact HI
    iintro HB HI
    ihave HM := HM $$ HB
    ihave HM := mix_take num num_inj A B (true, j) _ e1 $$ HM
    icases HM with ⟨HA, HM⟩
    iapply (h1 Q)
    isplitr; · iexact HR
    isplitl [HA]; · iexact HA
    isplitl [HI]; · iexact HI
    iintro HB HI
    iapply HQ
    isplitl [HM HB]; · iapply HM; iexact HB
    iexact HI)
  refine BIBase.Entails.trans ?_ key
  rw [show 2 * (0 + js.length) = 16 from rfl, Nat.mul_zero, mix_zero, mix_all num A B 16 num_lt]
  iintro ⟨HR, HA, HI, HQ⟩
  isplitl [HR]; · iexact HR
  isplitl [HA HI]
  · isplitl [HA]; · iexact HA
    iexact HI
  iintro ⟨HB, HI⟩
  iapply HQ $$ HB HI

section Rounds
variable (K : Dev nD × Ck → ℕ)

theorem initRound_run (c : Dev nD) (Q : PUnit → sProp 𝕄) :
    iprop(recs xs ws K ∗ xPts xs c ∗ wPts ws c ∗ (bigSep Finset.univ fun ch : Ch => St0 (F := F) c ch.1 ch.2) ∗ ow (F := F) c 2
        ∗ (xPts xs c -∗ wPts ws c -∗ (bigSep Finset.univ fun ch : Ch => St (F := F) 0 c ch.1 ch.2) -∗ ow (F := F) c 18 -∗ Q ⟨⟩))
      ⊢ WP c (initRound c) Q := by
  show _ ⊢ WP c (ldX (xR0 c false) >>= fun xf => ldX (xR0 c true) >>= fun xr => pairs fun d j => initOp c (cond d xr xf) d j) Q
  simp only [WP, wp_bind]
  iintro ⟨#HR, Hx, Hw, HS, HO, HQ⟩
  unfold xPts
  iapply (wp_ldX xs c (xR0 c false) rfl)
  isplitl [Hx]; · iexact Hx
  iintro Hx
  iapply (wp_ldX xs c (xR0 c true) rfl)
  isplitl [Hx]; · iexact Hx
  iintro Hx
  iapply (pair_run c _ (recs xs ws K) (fun ch => St0 (F := F) c ch.1 ch.2) (fun ch => St (F := F) 0 c ch.1 ch.2)
    (fun n => iprop(wPts ws c ∗ ow (F := F) c (2 + n))) (fun d j Q => by
      refine BIBase.Entails.trans ?_ ((initOp_step xs ws K c d j Q).trans (Entails.of_eq (by cases d <;> rfl)))
      iintro ⟨HR, HS, ⟨Hw, HO⟩, HQ⟩
      isplitl [HR]; · iexact HR
      isplitl [Hw]; · iexact Hw
      isplitl [HS]; · iexact HS
      isplitl [HO]; · iexact HO
      iintro Hw HS HO
      iapply HQ $$ HS
      isplitl [Hw]; · iexact Hw
      iexact HO) Q)
  isplitr; · iexact HR
  isplitl [HS]; · iexact HS
  isplitl [Hw HO]
  · isplitl [Hw]; · iexact Hw
    iexact HO
  iintro HS ⟨Hw, HO⟩
  iapply HQ $$ Hx Hw HS HO

set_option maxRecDepth 8000 in
theorem midRound_run (c : Dev nD) (s : Fin 6) (Q : PUnit → sProp 𝕄) :
    iprop(recs xs ws K ∗ xPts xs c ∗ wPts ws c ∗ (bigSep Finset.univ fun ch : Ch => St (F := F) s.val c ch.1 ch.2) ∗ ow (F := F) c (18 + 32 * s.val)
        ∗ (xPts xs c -∗ wPts ws c -∗ (bigSep Finset.univ fun ch : Ch => St (F := F) (s.val + 1) c ch.1 ch.2) -∗ ow (F := F) c (18 + 32 * (s.val + 1)) -∗ Q ⟨⟩))
      ⊢ WP c (midRound c s.castSucc) Q := by
  unfold midRound
  show _ ⊢ WP c (ldX (xR c s.castSucc false) >>= fun xf => ldX (xR c s.castSucc true) >>= fun xr =>
    pairs fun d j => midOp c s.castSucc (cond d xr xf) d j) Q
  simp only [WP, wp_bind]
  iintro ⟨#HR, Hx, Hw, HS, HO, HQ⟩
  unfold xPts
  iapply (wp_ldX xs c (xR c s.castSucc false) rfl)
  isplitl [Hx]; · iexact Hx
  iintro Hx
  iapply (wp_ldX xs c (xR c s.castSucc true) rfl)
  isplitl [Hx]; · iexact Hx
  iintro Hx
  iapply (pair_run c _ (recs xs ws K)
    (fun ch => St (F := F) s.val c ch.1 ch.2) (fun ch => St (F := F) (s.val + 1) c ch.1 ch.2)
    (fun n => iprop(wPts ws c ∗ ow (F := F) c (18 + 2 * (16 * s.val + n)))) (fun d j Q => by
      refine BIBase.Entails.trans ?_ ((midOp_step xs ws K c s d j Q).trans (Entails.of_eq (by cases d <;> rfl)))
      rw [show 18 + 2 * (16 * s.val + (num (d, j) + 1)) = 18 + 2 * (16 * s.val + num (d, j)) + 1 + 1 from by omega]
      iintro ⟨HR, HS, ⟨Hw, HO⟩, HQ⟩
      isplitl [HR]; · iexact HR
      isplitl [Hw]; · iexact Hw
      isplitl [HS]; · iexact HS
      isplitl [HO]; · iexact HO
      iintro Hw HS HO
      iapply HQ $$ HS
      isplitl [Hw]; · iexact Hw
      iexact HO) Q)
  isplitr; · iexact HR
  isplitl [HS]; · iexact HS
  isplitl [Hw HO]
  · isplitl [Hw]; · iexact Hw
    rw [show 18 + 2 * (16 * s.val + 0) = 18 + 32 * s.val from by omega]; iexact HO
  rw [show 18 + 2 * (16 * s.val + 16) = 18 + 32 * (s.val + 1) from by omega]
  iintro HS ⟨Hw, HO⟩
  iapply HQ $$ Hx Hw HS HO

theorem midRounds_run (c : Dev nD) (Q : PUnit → sProp 𝕄) :
    iprop(recs xs ws K ∗ xPts xs c ∗ wPts ws c ∗ (bigSep Finset.univ fun ch : Ch => St (F := F) 0 c ch.1 ch.2) ∗ ow (F := F) c 18
        ∗ (xPts xs c -∗ wPts ws c -∗ (bigSep Finset.univ fun ch : Ch => St (F := F) 6 c ch.1 ch.2) -∗ ow (F := F) c 210 -∗ Q ⟨⟩))
      ⊢ WP c (seqL [0, 1, 2, 3, 4, 5] fun s => midRound c s) Q := by
  have key := seqL_run c (fun s => midRound c s) (recs xs ws K)
    (fun n => iprop(xPts xs c ∗ wPts ws c ∗ (bigSep Finset.univ fun ch : Ch => St (F := F) n c ch.1 ch.2) ∗ ow (F := F) c (18 + 32 * n)))
    [0, 1, 2, 3, 4, 5] 0 Q (by
      intro i hi Q
      have e : ([0, 1, 2, 3, 4, 5] : List (Fin 7))[i] = (⟨i, hi⟩ : Fin 6).castSucc := by
        have : ∀ k : Fin 6, ([0, 1, 2, 3, 4, 5] : List (Fin 7))[k.val] = k.castSucc := by decide
        exact this ⟨i, hi⟩
      rw [e, Nat.zero_add]
      refine BIBase.Entails.trans ?_ (midRound_run xs ws K c ⟨i, hi⟩ Q)
      iintro ⟨HR, ⟨Hx, Hw, HS, HO⟩, HQ⟩
      isplitl [HR]; · iexact HR
      isplitl [Hx]; · iexact Hx
      isplitl [Hw]; · iexact Hw
      isplitl [HS]; · iexact HS
      isplitl [HO]; · iexact HO
      iintro Hx Hw HS HO
      iapply HQ
      isplitl [Hx]; · iexact Hx
      isplitl [Hw]; · iexact Hw
      isplitl [HS]; · iexact HS
      iexact HO)
  refine BIBase.Entails.trans ?_ key
  iintro ⟨HR, Hx, Hw, HS, HO, HQ⟩
  isplitl [HR]; · iexact HR
  isplitl [Hx Hw HS HO]
  · isplitl [Hx]; · iexact Hx
    isplitl [Hw]; · iexact Hw
    isplitl [HS]; · iexact HS
    iexact HO
  iintro ⟨Hx, Hw, HS, HO⟩
  iapply HQ $$ Hx Hw HS HO

theorem lastFold_run (c : Dev nD) (Q : F .f32 → sProp 𝕄) :
    iprop(recs xs ws K ∗ (bigSep Finset.univ fun ch : Ch => St (F := F) 6 c ch.1 ch.2) ∗ wPts ws c ∗ ow (F := F) c 210
        ∗ ((bigSep Finset.univ fun ch : Ch => StF xs ws c ch.1 ch.2) -∗ wPts ws c -∗ ow (F := F) c 210 -∗ Q (amaxv xs ws c)))
      ⊢ WP c (folds (amaxF xs ws c 0) fun d am j => lastOp c (cond d (xv xs c 6 true) (xv xs c 6 false)) d am j) Q := by
  unfold folds
  have key := foldL_run c (fun am j => do
      let am ← lastOp c (xv xs c 6 false) false am j
      lastOp c (xv xs c 6 true) true am j) (recs xs ws K)
    (fun n => iprop(mix num (fun ch => St (F := F) 6 c ch.1 ch.2) (fun ch => StF xs ws c ch.1 ch.2) (2 * n) ∗ wPts ws c ∗ ow (F := F) c 210))
    (fun n => amaxF xs ws c (2 * n)) js 0 Q (by
    intro i hi Q
    rw [js_get i hi]
    generalize hj : (⟨i, hi⟩ : Fin 8) = j
    have e : i = j.val := by rw [← hj]
    subst e
    simp only [WP, wp_bind]
    have e0 : num (false, j) = 2 * j.val := rfl
    have e1 : num (true, j) = 2 * j.val + 1 := rfl
    have a0 : amaxF xs ws c (2 * j.val + 1) = amaxStep (amaxF xs ws c (2 * j.val)) (yv xs ws c (false, j)) := by
      rw [← e0, amaxF, chAt_num]
    have a1 : amaxF xs ws c (2 * j.val + 1 + 1) = amaxStep (amaxF xs ws c (2 * j.val + 1)) (yv xs ws c (true, j)) := by
      rw [← e1, amaxF, chAt_num]
    rw [Nat.zero_add, show 2 * (j.val + 1) = 2 * j.val + 1 + 1 from by omega, a1, a0]
    iintro ⟨#HR, ⟨HM, Hw, HO⟩, HQ⟩
    ihave HM := mix_take num num_inj _ _ (false, j) _ e0 $$ HM
    icases HM with ⟨HA, HM⟩
    iapply (lastOp_step xs ws K c _ false j)
    isplitr; · iexact HR
    isplitl [Hw]; · iexact Hw
    isplitl [HA]; · iexact HA
    isplitl [HO]; · iexact HO
    iintro Hw HB HO
    ihave HM := HM $$ HB
    ihave HM := mix_take num num_inj _ _ (true, j) _ e1 $$ HM
    icases HM with ⟨HA, HM⟩
    iapply (lastOp_step xs ws K c _ true j)
    isplitr; · iexact HR
    isplitl [Hw]; · iexact Hw
    isplitl [HA]; · iexact HA
    isplitl [HO]; · iexact HO
    iintro Hw HB HO
    iapply HQ
    isplitl [HM HB]; · iapply HM; iexact HB
    isplitl [Hw]; · iexact Hw
    iexact HO)
  refine BIBase.Entails.trans ?_ key
  rw [show 2 * (0 + js.length) = 16 from rfl, Nat.mul_zero, mix_zero, mix_all num _ _ 16 num_lt, show amaxv xs ws c = amaxF xs ws c 16 from rfl]
  iintro ⟨HR, HS, Hw, HO, HQ⟩
  isplitl [HR]; · iexact HR
  isplitl [HS Hw HO]
  · isplitl [HS]; · iexact HS
    isplitl [Hw]; · iexact Hw
    iexact HO
  iintro ⟨HS, Hw, HO⟩
  iapply HQ $$ HS Hw HO

theorem lastRound_run (c : Dev nD) (Q : F .f32 → sProp 𝕄) :
    iprop(recs xs ws K ∗ xPts xs c ∗ wPts ws c ∗ (bigSep Finset.univ fun ch : Ch => St (F := F) 6 c ch.1 ch.2) ∗ ow (F := F) c 210
        ∗ (xPts xs c -∗ wPts ws c -∗ (bigSep Finset.univ fun ch : Ch => StF xs ws c ch.1 ch.2) -∗ ow (F := F) c 210 -∗ Q (amaxv xs ws c)))
      ⊢ WP c (lastRound c) Q := by
  show _ ⊢ WP c (ldX (xR c 6 false) >>= fun xf => ldX (xR c 6 true) >>= fun xr =>
    folds (amaxF xs ws c 0) fun d am j => lastOp c (cond d xr xf) d am j) Q
  simp only [WP, wp_bind]
  iintro ⟨#HR, Hx, Hw, HS, HO, HQ⟩
  unfold xPts
  iapply (wp_ldX xs c (xR c 6 false) rfl)
  isplitl [Hx]; · iexact Hx
  iintro Hx
  iapply (wp_ldX xs c (xR c 6 true) rfl)
  isplitl [Hx]; · iexact Hx
  iintro Hx
  iapply (lastFold_run xs ws K c Q)
  isplitr; · iexact HR
  isplitl [HS]; · iexact HS
  isplitl [Hw]; · iexact Hw
  isplitl [HO]; · iexact HO
  iintro HS Hw HO
  iapply HQ $$ Hx Hw HS HO

end Rounds

end Cert.KernelIdeal.Own

end
-- ==== Proof.Tail.lean ====
/- The exchange of greatest magnitudes and the write of the result. -/
module

public import proofs.«01_k».proof.Proof.Loops

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A loop over a list, kept folded. -/
def runs {α : Type} (l : List α) (f : α → BP F PUnit) : BP F PUnit := seqL l f

theorem line_run {α : Type} {n : ℕ} (c : Dev nD) (l : List α) (g : Fin n → α) (hl : l.length = n) (hg : ∀ (i : ℕ) (hi : i < l.length), l[i] = g ⟨i, hl ▸ hi⟩)
    (f : α → BP F PUnit) (R : sProp 𝕄) [BI.Persistent R] (A B : Fin n → sProp 𝕄) (I : ℕ → sProp 𝕄)
    (h : ∀ (k : Fin n) (Q : PUnit → sProp 𝕄), iprop(R ∗ A k ∗ I k.val ∗ (B k -∗ I (k.val + 1) -∗ Q ⟨⟩)) ⊢ WP c (f (g k)) Q) (Q : PUnit → sProp 𝕄) :
    iprop(R ∗ (bigSep Finset.univ A) ∗ I 0 ∗ ((bigSep Finset.univ B) -∗ I n -∗ Q ⟨⟩)) ⊢ WP c (runs l f) Q := by
  subst hl
  unfold runs
  have key := seqL_run c f R (fun q => iprop(mix (fun k : Fin l.length => k.val) A B q ∗ I q)) l 0 Q (by
    intro i hi Q
    rw [hg i hi, Nat.zero_add]
    iintro ⟨#HR, ⟨HM, HI⟩, HQ⟩
    ihave HM := mix_take (fun k : Fin l.length => k.val) val_inj A B ⟨i, hi⟩ i rfl $$ HM
    icases HM with ⟨HA, HM⟩
    iapply (h ⟨i, hi⟩ Q)
    isplitr; · iexact HR
    isplitl [HA]; · iexact HA
    isplitl [HI]; · iexact HI
    iintro HB HI
    iapply HQ
    isplitl [HM HB]; · iapply HM; iexact HB
    iexact HI)
  refine BIBase.Entails.trans ?_ key
  rw [Nat.zero_add, mix_zero, mix_all _ A B l.length (fun i => i.isLt)]
  iintro ⟨HR, HA, HI, HQ⟩
  isplitl [HR]; · iexact HR
  isplitl [HA HI]
  · isplitl [HA]; · iexact HA
    iexact HI
  iintro ⟨HB, HI⟩
  iapply HQ $$ HB HI

variable (xs : Dev nD → XC F) (ws : Dev nD → WC F)

/-! ## The exchange of greatest magnitudes -/

/-- What sending row `k` takes. -/
def rowIn (c : Dev nD) (k : Fin 7) : sProp 𝕄 :=
  iprop(any (F := F) (sh c (k.val + 1)) (rowM k.succ) ∗ dutyTok ER (kcell c (.asnd k.succ)) 0 false ∗ dutyTok ER (kcell (sh c (k.val + 1)) (.arcv k.succ)) 0 false)
/-- A row's cells before the exchange. -/
def rowPos (c : Dev nD) (r : ℕ) (k : Fin 7) : sProp 𝕄 :=
  iprop(atPos ER (kcell c (.asnd k.succ)) r ∅ 0 ∗ atPos ER (kcell c (.arcv k.succ)) r ∅ 0)
/-- The credit that row `k` will arrive. -/
def rowCr (c : Dev nD) (k : Fin 7) : sProp 𝕄 := cred (tallyAt (kcell c (.arcv k.succ)) 0 NA)

theorem ext_end (c : Dev nD) :
    ext (F := F) c (false, 0) 6 = bigSep Finset.univ fun k : Fin 7 => any (F := F) (sh c (k.val + 1)) (rowM k.succ) := by
  unfold ext
  rw [if_pos rfl]
  exact bigSep_congr fun k _ => by rw [show min (k.val + 1) (6 + 1) = k.val + 1 from by omega]

theorem rem_split (c : Dev nD) (n : ℕ) (a : F .f32) : (rowOwn c 0 (remSh n) a : sProp 𝕄) ⊢ iprop(rowOwn c 0 (pieceSh n) a ∗ rowOwn c 0 (remSh (n + 1)) a) := by
  unfold rowOwn; exact (owns_halves (Val := Elt F) (c : Thread nD τ) (rowM 0) (remSh n) (rowOf a)).1
theorem rem_join (c : Dev nD) (n : ℕ) (a : F .f32) : iprop(rowOwn c 0 (pieceSh n) a ∗ rowOwn c 0 (remSh (n + 1)) a) ⊢ (rowOwn c 0 (remSh n) a : sProp 𝕄) := by
  unfold rowOwn; exact (owns_halves (Val := Elt F) (c : Thread nD τ) (rowM 0) (remSh n) (rowOf a)).2

theorem rem_all (c : Dev nD) (a : F .f32) (n : ℕ) :
    iprop((bigSep Finset.univ fun k : Fin n => (rowOwn c 0 (pieceSh k.val) a : sProp 𝕄)) ∗ rowOwn c 0 (remSh n) a) ⊢ rowOwn c 0 fullShare a := by
  have h : ∀ m, m ≤ n → iprop(rest (fun k : Fin n => (rowOwn c 0 (pieceSh k.val) a : sProp 𝕄)) (n - m) ∗ rowOwn c 0 (remSh n) a) ⊢ (rowOwn c 0 (remSh (n - m)) a : sProp 𝕄) := by
    intro m
    induction m with
    | zero => intro _; iintro ⟨-, H⟩; iexact H
    | succ m ih =>
      intro hm
      have e : n - m = n - (m + 1) + 1 := by omega
      iintro ⟨HR, H⟩
      ihave HR := rest_take (fun k : Fin n => (rowOwn c 0 (pieceSh k.val) a : sProp 𝕄)) ⟨n - (m + 1), by omega⟩ _ rfl $$ HR
      icases HR with ⟨HP, HR⟩
      iapply (rem_join c (n - (m + 1)) a)
      isplitl [HP]; · iexact HP
      have ih' := ih (by omega)
      rw [e] at ih'
      iapply ih'
      isplitl [HR]; · iexact HR
      iexact H
  have := h n le_rfl
  rw [Nat.sub_self, rest_zero] at this
  exact this

theorem rows_disj (k k' : Fin 8) (h : k ≠ k') : Disjoint (rowR k).set (rowR k').set := by
  refine Rect.unit_disjoint (0 : Fin 2) ?_
  have : k.val ≠ k'.val := fun e => h (Fin.ext e)
  show k.val + 1 ≤ k'.val ∨ k'.val + 1 ≤ k.val
  omega
theorem rows_cov : (Finset.univ : Finset (Fin 8)).biUnion (fun k => (rowR k).set) = Finset.univ := by
  ext i
  simp only [Finset.mem_biUnion, Finset.mem_univ, true_and, iff_true]
  refine ⟨i 0, Rect.mem_set_unit.mpr fun a => ?_⟩
  fin_cases a
  · exact ⟨le_refl (i 0).val, Nat.lt_succ_self (i 0).val⟩
  · exact ⟨Nat.zero_le (i 1).val, by show (i 1).val < 0 + 128; have := (i 1).isLt; simpa [Shape.size] using this⟩

theorem rows_all (c : Dev nD) :
    iprop(rowOwn c 0 fullShare (amaxv xs ws c) ∗ bigSep Finset.univ fun k : Fin 7 => (rowOwn c k.succ fullShare (amaxv xs ws (sh c (8 - k.succ.val))) : sProp 𝕄))
      ⊢ (owns (c : Thread nD τ) aM fullShare (amaxAll xs ws c) : sProp 𝕄) := by
  refine BIBase.Entails.trans ?_ (owns_of_rects (c : Thread nD τ) aM fullShare rowR (fun _ _ => rfl) rows_disj rows_cov (amaxAll xs ws c))
  have e : ∀ k : Fin 8, (fun j => amaxAll xs ws c ((rowR k).emb j)) = rowOf (amaxv xs ws (sh c (8 - k.val))) := by
    intro k
    funext j
    show amaxv xs ws (sh c (8 - (k.val + 1 * (j 0).val))) = amaxv xs ws (sh c (8 - k.val))
    have : (j 0).val = 0 := by have := (j 0).isLt; simpa [Shape.size] using this
    rw [this]; rfl
  rw [bigSep_univ_at _ (0 : Fin 8)]
  have hs : (Finset.univ.erase (0 : Fin 8)) = Finset.univ.map (Fin.succEmb 7) := by decide
  rw [hs, bigSep_map, e 0]
  have h0 : (rowOwn c 0 fullShare (amaxv xs ws c) : sProp 𝕄) ⊢ owns (c : Thread nD τ) (rowM 0) fullShare (rowOf (amaxv xs ws (sh c (8 - (0 : Fin 8).val)))) := by
    rw [show sh c (8 - (0 : Fin 8).val) = c from sh_eight c]; exact .rfl
  refine BI.sep_mono h0 (bigSep_mono fun k _ => ?_)
  have hk := e k.succ
  show (rowOwn c k.succ fullShare _ : sProp 𝕄) ⊢ owns (c : Thread nD τ) (rowM k.succ) fullShare (fun j => amaxAll xs ws c ((rowR k.succ).emb j))
  exact Entails.of_eq (congrArg (fun X => (owns (c : Thread nD τ) (rowM k.succ) fullShare X : sProp 𝕄)) hk.symm)

section Rounds
variable (K : Dev nD × Ck → ℕ)

theorem none_due (e : D) (h : 217 ≤ key e) (P : Prop) : P := absurd (key_lt e) (by omega)

theorem rowSend_run (c : Dev nD) (Q : PUnit → sProp 𝕄) :
    iprop(recs xs ws K ∗ (bigSep Finset.univ (rowIn (F := F) c)) ∗ (rowOwn c 0 fullShare (amaxv xs ws c) ∗ ow (F := F) c 210)
        ∗ ((bigSep Finset.univ fun k : Fin 7 => cred (tallyAt (kcell c (.asnd k.succ)) 0 NA)) -∗ (rowOwn c 0 (remSh 7) (amaxv xs ws c) ∗ ow (F := F) c 217) -∗ Q ⟨⟩))
      ⊢ WP c (runs ks fun k => Prog.lift (.enqueueDma (rowM 0) (.remote (Dev.tc (tgt c k)) (rowM k) (.dma (asndS k))) (.dma (arcvS k))
    (View.wordExact_bits rfl) (View.wordExact_bits rfl) ⟨⟨rfl, Or.inl rfl⟩, trivial⟩)) Q := by
  refine line_run c ks Fin.succ rfl (fun i hi => ks_get i hi) _ (recs xs ws K) (rowIn (F := F) c) (fun k => cred (tallyAt (kcell c (.asnd k.succ)) 0 NA))
    (fun n => iprop(rowOwn c 0 (remSh n) (amaxv xs ws c) ∗ ow (F := F) c (210 + n))) (fun k Q => ?_) Q
  refine BIBase.Entails.trans ?_ (wp_cpR xs ws K c k (pieceSh k.val) rfl Q)
  unfold rowIn
  iintro ⟨#HR, ⟨Ha, Ht1, Ht2⟩, ⟨Hr, HO⟩, HQ⟩
  isplitr; · iexact HR
  ihave Hr := rem_split c k.val _ $$ Hr
  icases Hr with ⟨Hp, Hr⟩
  isplitl [Hp]; · iexact Hp
  isplitl [Ha]; · iexact Ha
  isplitl [HO]; · iexact HO
  isplitl [Ht1]; · iexact Ht1
  isplitr; · iapply (recs_reached xs ws K c (.asnd k.succ)); iexact HR
  isplitl [Ht2]; · iexact Ht2
  isplitr; · iapply (recs_reached xs ws K (sh c (k.val + 1)) (.arcv k.succ)); iexact HR
  iintro Hc HO
  iapply HQ $$ Hc
  isplitl [Hr]; · iexact Hr
  iexact HO

theorem rowSent_run (c : Dev nD) (Q : PUnit → sProp 𝕄) :
    iprop(recs xs ws K ∗ ((bigSep Finset.univ fun k : Fin 7 => cred (tallyAt (kcell c (.asnd k.succ)) 0 NA)) ∗ bigSep Finset.univ fun k : Fin 7 => atPos ER (kcell c (.asnd k.succ)) 0 ∅ 0) ∗ ow (F := F) c 217
        ∗ (((bigSep Finset.univ fun k : Fin 7 => rowOwn c 0 (pieceSh k.val) (amaxv xs ws c)) ∗ bigSep Finset.univ fun k : Fin 7 => atPos ER (kcell c (.asnd k.succ)) 1 ∅ 0) -∗ ow (F := F) c 217 -∗ Q ⟨⟩))
      ⊢ WP c (runs ks fun k => Prog.lift (.waitDma2 (asndS k) (rowM k) (rowM 0) (View.wordExact_bits rfl) (View.wordExact_bits rfl))) Q := by
  rw [← bigSep_sep', ← bigSep_sep']
  refine line_run c ks Fin.succ rfl (fun i hi => ks_get i hi) _ (recs xs ws K) _ _ (fun n => ow (F := F) c 217) (fun k Q => ?_) Q
  refine BIBase.Entails.trans ?_ (wp_wait1 xs ws K c (.asnd k.succ) 0 0 217 (rowM 0).view.dmaCredit
    (fun K' => wpE_waitDma2_eq 𝒱₀ (c : Thread nD τ) none Set.univ K') rfl
    (by simp only [dutK]; rw [if_pos ⟨Fin.succ_ne_zero k, trivial⟩]) (by omega) (fun e he => none_due e he _) Q)
  iintro ⟨HR, ⟨Hc, Hp⟩, HO, HQ⟩
  isplitl [HR]; · iexact HR
  isplitl [Hc]; · iexact Hc
  isplitl [HO]; · iexact HO
  isplitl [Hp]; · iexact Hp
  iintro HO Hp - Hpay
  iapply HQ $$ [Hpay Hp] HO
  isplitl [Hpay]; · simp only [payK, Fin.val_succ, Nat.add_sub_cancel]; iexact Hpay
  iexact Hp

theorem rowRecv_run (c : Dev nD) (Q : PUnit → sProp 𝕄) :
    iprop(recs xs ws K ∗ ((bigSep Finset.univ fun k : Fin 7 => cred (tallyAt (kcell c (.arcv k.succ)) 0 NA)) ∗ bigSep Finset.univ fun k : Fin 7 => atPos ER (kcell c (.arcv k.succ)) 0 ∅ 0) ∗ ow (F := F) c 217
        ∗ (((bigSep Finset.univ fun k : Fin 7 => rowOwn c k.succ fullShare (amaxv xs ws (sh c (8 - k.succ.val)))) ∗ bigSep Finset.univ fun k : Fin 7 => atPos ER (kcell c (.arcv k.succ)) 1 ∅ 0) -∗ ow (F := F) c 217 -∗ Q ⟨⟩))
      ⊢ WP c (runs ks fun k => Prog.lift (.waitDma2 (arcvS k) (rowM 0) (rowM k) (View.wordExact_bits rfl) (View.wordExact_bits rfl))) Q := by
  rw [← bigSep_sep', ← bigSep_sep']
  refine line_run c ks Fin.succ rfl (fun i hi => ks_get i hi) _ (recs xs ws K) _ _ (fun n => ow (F := F) c 217) (fun k Q => ?_) Q
  refine BIBase.Entails.trans ?_ (wp_wait1 xs ws K c (.arcv k.succ) 0 0 217 (rowM k.succ).view.dmaCredit
    (fun K' => wpE_waitDma2_eq 𝒱₀ (c : Thread nD τ) none Set.univ K') (credit_row k.succ)
    (by simp only [dutK]; rw [if_pos ⟨Fin.succ_ne_zero k, trivial⟩]) (by omega) (fun e he => none_due e he _) Q)
  iintro ⟨HR, ⟨Hc, Hp⟩, HO, HQ⟩
  isplitl [HR]; · iexact HR
  isplitl [Hc]; · iexact Hc
  isplitl [HO]; · iexact HO
  isplitl [Hp]; · iexact Hp
  iintro HO Hp - Hpay
  iapply HQ $$ [Hpay Hp] HO
  isplitl [Hpay]; · simp only [payK]; iexact Hpay
  iexact Hp

theorem amaxRound_eq (c : Dev nD) (a : F .f32) : amaxRound c a = (Prog.lift (.load aM (rowR 0).toLoadRect (View.loadsAt_vmem h_S1x128)) >>= fun _ =>
    Prog.lift (.store aM (rowR 0) (rowOf a) Finset.univ (View.stores_vmem_bits_univ h_S1x128 rfl) (.inl rfl)) >>= fun _ =>
    (runs ks fun k => Prog.lift (.enqueueDma (rowM 0) (.remote (Dev.tc (tgt c k)) (rowM k) (.dma (asndS k))) (.dma (arcvS k))
      (View.wordExact_bits rfl) (View.wordExact_bits rfl) ⟨⟨rfl, Or.inl rfl⟩, trivial⟩)) >>= fun _ =>
    (runs ks fun k => Prog.lift (.waitDma2 (asndS k) (rowM k) (rowM 0) (View.wordExact_bits rfl) (View.wordExact_bits rfl))) >>= fun _ =>
    (runs ks fun k => Prog.lift (.waitDma2 (arcvS k) (rowM 0) (rowM k) (View.wordExact_bits rfl) (View.wordExact_bits rfl))) >>= fun _ =>
    Prog.lift (.load aM (Rect.unit (s := S8x128) ![0, 0] S8x128.size inb_S8x128_S8x128_0_0).toLoadRect (View.loadsAt_vmem h_S8x128)) >>= fun v =>
    pure (gmaxOf v)) := by
  unfold amaxRound runs; rfl

theorem rowPos_split (c : Dev nD) (r : ℕ) : bigSep Finset.univ (rowPos (F := F) c r)
    = iprop((bigSep Finset.univ fun k : Fin 7 => atPos ER (kcell c (.asnd k.succ)) r ∅ 0) ∗ bigSep Finset.univ fun k : Fin 7 => atPos ER (kcell c (.arcv k.succ)) r ∅ 0) := by
  unfold rowPos; exact bigSep_sep' ..

theorem amaxRound_run (c : Dev nD) (Q : F .f32 → sProp 𝕄) :
    iprop(recs xs ws K ∗ any (F := F) c (rowM 0) ∗ (bigSep Finset.univ (rowIn (F := F) c)) ∗ (bigSep Finset.univ (rowPos (F := F) c 0))
        ∗ (bigSep Finset.univ (rowCr (F := F) c)) ∗ ow (F := F) c 210
        ∗ (any (F := F) c aM -∗ (bigSep Finset.univ (rowPos (F := F) c 1)) -∗ ow (F := F) c 217 -∗ Q (gv xs ws c)))
      ⊢ WP c (amaxRound c (amaxv xs ws c)) Q := by
  rw [amaxRound_eq, rowPos_split, rowPos_split]
  simp only [WP, wp_bind]
  unfold any owns
  iintro ⟨#HR, ⟨%X, %f, %hf, H⟩, Hin, Hpos, Hcr, HO, HQ⟩
  iapply (wp_load_rect 𝒱₀ (c : Thread nD τ) none Set.univ (m := aM) (r := rowR 0) (S := (rowM 0).view.set) (by rfl)) $$ H
  iintro H
  iapply (le_wp_ret _ _ _ _ _)
  iapply (wp_store 𝒱₀ (c : Thread nD τ) none Set.univ (m := aM) (r := rowR 0) (Mk := Finset.univ)
    (S := (rowM 0).view.set) (by rw [View.setOn_univ])) $$ H
  iintro H
  iapply (le_wp_ret _ _ _ _ _)
  iapply (rowSend_run xs ws K c)
  isplitr; · iexact HR
  isplitl [Hin]; · iexact Hin
  isplitl [H HO]
  · isplitl [H]
    · unfold rowOwn owns
      iexists _
      isplitr
      rotate_left
      · iexact H
      · ipureintro
        exact View.read_write_univ ..
    · iexact HO
  iintro Hc ⟨Hrem, HO⟩
  icases Hpos with ⟨Hp1, Hp2⟩
  iapply (rowSent_run xs ws K c)
  isplitr; · iexact HR
  isplitl [Hc Hp1]
  · isplitl [Hc]; · iexact Hc
    iexact Hp1
  isplitl [HO]; · iexact HO
  iintro ⟨Hpc, Hp1⟩ HO
  ihave Hrow := rem_all c _ 7 $$ [Hpc Hrem]
  · isplitl [Hpc]; · iexact Hpc
    iexact Hrem
  iapply (rowRecv_run xs ws K c)
  isplitr; · iexact HR
  isplitl [Hcr Hp2]
  · isplitl [Hcr]; · unfold rowCr; iexact Hcr
    iexact Hp2
  isplitl [HO]; · iexact HO
  iintro ⟨Hrows, Hp2⟩ HO
  ihave Hall := rows_all xs ws c $$ [Hrow Hrows]
  · isplitl [Hrow]; · iexact Hrow
    iexact Hrows
  unfold owns
  icases Hall with ⟨%f', %hf', H⟩
  iapply (wp_load 𝒱₀ (c : Thread nD τ) none Set.univ (m := aM) (S := aM.view.set) (by
    exact Finset.map_subset_map.mpr (Finset.subset_univ _))) $$ H
  iintro H
  iapply (le_wp_ret _ _ _ _ _)
  have hv : aM.view.readAt (Elt F) (Rect.unit (s := S8x128) ![0, 0] S8x128.size inb_S8x128_S8x128_0_0).toLoadRect f' = amaxAll xs ws c := by
    rw [← hf']
    funext y
    refine congrArg (aM.view.read (Elt F) f') (funext fun a => Fin.ext ?_)
    show (![0, 0] : Fin 2 → ℕ) a + 1 * (y a).val = (y a).val
    have : (![0, 0] : Fin 2 → ℕ) a = 0 := by fin_cases a <;> rfl
    omega
  have hg : gmaxOf (amaxAll xs ws c) = gv xs ws c := rfl
  rw [hv, hg]
  iapply (le_wp_ret _ _ _ _ _)
  iapply HQ $$ [H] [Hp1 Hp2] HO
  · iexists _, f'
    isplitr; · ipureintro; exact hf'
    iexact H
  · isplitl [Hp1]; · iexact Hp1
    iexact Hp2

/-! ## The result -/

/-- A chunk before it is quantised, with its place in the result. -/
def OA (c : Dev nD) (d : Bool) (j : Fin 8) : sProp 𝕄 :=
  iprop(chOwn c (d, j) 0 (yv xs ws c (d, j)) ∗ any (F := F) c (outM d j) ∗ dutyTok ER (kcell c (.out d j)) 0 false ∗ atPos ER (kcell c (.out d j)) 0 ∅ 0)
/-- A chunk on its way out. -/
def OM (c : Dev nD) (d : Bool) (j : Fin 8) : sProp 𝕄 :=
  iprop(cred (tallyAt (kcell c (.out d j)) 0 NO) ∗ atPos ER (kcell c (.out d j)) 0 ∅ 0)
/-- A chunk in its place. -/
def OB (c : Dev nD) (d : Bool) (j : Fin 8) : sProp 𝕄 :=
  iprop((outOwn c (d, j) (ov xs ws c (d, j)) ∗ chOwn c (d, j) 0 (ov xs ws c (d, j))) ∗ atPos ER (kcell c (.out d j)) 1 ∅ 0)

theorem outOps_run (c : Dev nD) (d : Bool) (Q : PUnit → sProp 𝕄) :
    iprop(recs xs ws K ∗ (bigSep Finset.univ fun j => OA xs ws c d j) ∗ emp ∗ ((bigSep Finset.univ fun j => OM (F := F) c d j) -∗ emp -∗ Q ⟨⟩))
      ⊢ WP c (runs js fun j => outOp (gv xs ws c) d j) Q := by
  refine line_run c js id rfl (fun i hi => js_get i hi) _ (recs xs ws K) _ _ (fun n => iprop(emp)) (fun j Q => ?_) Q
  unfold OA OM
  show _ ⊢ WP c (outOp (gv xs ws c) d j) Q
  unfold outOp
  simp only [WP, wp_bind]
  iintro ⟨#HR, ⟨Hy, Ho, Ht, Hp⟩, -, HQ⟩
  iapply (wp_ldC c d 0 j)
  isplitl [Hy]; · iexact Hy
  iintro %w %hw Hy
  ihave Hy := chOwn_any c d j 0 _ $$ Hy
  iapply (wp_ldC_any c d 0 j)
  isplitl [Hy]; · iexact Hy
  iintro %w' Hy
  rw [hw]
  iapply (wp_stC c d 0 j)
  isplitl [Hy]; · iexact Hy
  iintro Hy
  iapply (wp_cpO xs ws K c d j)
  isplitr; · iexact HR
  isplitl [Hy]; · iexact Hy
  isplitl [Ho]; · iexact Ho
  isplitl [Ht]; · iexact Ht
  isplitr; · iapply (recs_reached xs ws K c (.out d j)); iexact HR
  iintro Hc
  iapply HQ $$ [Hc Hp] []
  · isplitl [Hc]; · iexact Hc
    iexact Hp
  · iempintro

theorem outWaits_run (c : Dev nD) (d : Bool) (Q : PUnit → sProp 𝕄) :
    iprop(recs xs ws K ∗ (bigSep Finset.univ fun j => OM (F := F) c d j) ∗ ow (F := F) c 217 ∗ ((bigSep Finset.univ fun j => OB xs ws c d j) -∗ ow (F := F) c 217 -∗ Q ⟨⟩))
      ⊢ WP c (runs js fun j => outWait d j) Q := by
  refine line_run c js id rfl (fun i hi => js_get i hi) _ (recs xs ws K) _ _ (fun n => ow (F := F) c 217) (fun j Q => ?_) Q
  unfold OM OB
  refine BIBase.Entails.trans ?_ (wp_wait1 xs ws K c (.out d j) 0 0 217 (outM d j).view.dmaCredit
    (fun K' => wpE_waitDma2_eq 𝒱₀ (c : Thread nD τ) none Set.univ K') (credit_out d j) rfl (by omega) (fun e he => none_due e he _) Q)
  iintro ⟨HR, ⟨Hc, Hp⟩, HO, HQ⟩
  isplitl [HR]; · iexact HR
  isplitl [Hc]; · iexact Hc
  isplitl [HO]; · iexact HO
  isplitl [Hp]; · iexact Hp
  iintro HO Hp - Hpay
  iapply HQ $$ [Hpay Hp] HO
  isplitl [Hpay]; · simp only [payK]; iexact Hpay
  iexact Hp

theorem bigSep_ch (Φ : Ch → sProp 𝕄) : bigSep Finset.univ Φ = iprop((bigSep Finset.univ fun j => Φ (false, j)) ∗ bigSep Finset.univ fun j => Φ (true, j)) := by
  rw [bigSep_univ_prod, bigSep_univ_eq_bigSepL [false, true] (by decide) (by decide)]; rfl

theorem outRound_run (c : Dev nD) (Q : PUnit → sProp 𝕄) :
    iprop(recs xs ws K ∗ (bigSep Finset.univ fun ch : Ch => OA xs ws c ch.1 ch.2) ∗ ow (F := F) c 217
        ∗ ((bigSep Finset.univ fun ch : Ch => OB xs ws c ch.1 ch.2) -∗ ow (F := F) c 217 -∗ Q ⟨⟩))
      ⊢ WP c (outRound (gv xs ws c)) Q := by
  show _ ⊢ WP c ((runs js fun j => outOp (gv xs ws c) false j) >>= fun _ => (runs js fun j => outOp (gv xs ws c) true j) >>= fun _ =>
    (runs js fun j => outWait false j) >>= fun _ => runs js fun j => outWait true j) Q
  simp only [WP, wp_bind]
  rw [bigSep_ch, bigSep_ch]
  iintro ⟨#HR, ⟨Hf, Hr⟩, HO, HQ⟩
  iapply (outOps_run xs ws K c false)
  isplitr; · iexact HR
  isplitl [Hf]; · iexact Hf
  isplitr; · iempintro
  iintro Hf -
  iapply (outOps_run xs ws K c true)
  isplitr; · iexact HR
  isplitl [Hr]; · iexact Hr
  isplitr; · iempintro
  iintro Hr -
  iapply (outWaits_run xs ws K c false)
  isplitr; · iexact HR
  isplitl [Hf]; · iexact Hf
  isplitl [HO]; · iexact HO
  iintro Hf HO
  iapply (outWaits_run xs ws K c true)
  isplitr; · iexact HR
  isplitl [Hr]; · iexact Hr
  isplitl [HO]; · iexact HO
  iintro Hr HO
  iapply HQ $$ [Hf Hr] HO
  isplitl [Hf]; · iexact Hf
  iexact Hr

end Rounds

end Cert.KernelIdeal.Own

end
-- ==== Proof.Body.lean ====
/- The whole body of one device. -/
module

public import proofs.«01_k».proof.Proof.Tail

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → XC F) (ws : Dev nD → WC F)

/-! ## What a device starts with and ends with -/

/-- The tokens of the payments a device makes, but for its credits. -/
def Toks (c : Dev nD) : sProp 𝕄 :=
  iprop((dutyTok ER (kcell (up c false) .bar) 0 false ∗ dutyTok ER (kcell (up c true) .bar) 0 true)
    ∗ (bigSep Finset.univ fun ch : Ch => rest (tokRes (F := F) c ch.1 ch.2) 0)
    ∗ (bigSep Finset.univ fun k : Fin 7 => dutyTok ER (kcell c (.asnd k.succ)) 0 false)
    ∗ (bigSep Finset.univ fun k : Fin 7 => dutyTok ER (kcell (sh c (k.val + 1)) (.arcv k.succ)) 0 false)
    ∗ (bigSep Finset.univ fun ch : Ch => dutyTok ER (kcell c (.out ch.1 ch.2)) 0 false))

/-- What others owe a device. -/
def Creds (c : Dev nD) : sProp 𝕄 :=
  iprop(cred (tallyAt (kcell c .bar) 0 2) ∗ (bigSep Finset.univ fun ch : Ch => rest (crRes (F := F) c ch.1 ch.2) 0)
    ∗ (bigSep Finset.univ (rowCr (F := F) c)))

/-- The buffers at the start. -/
def MemS (c : Dev nD) : sProp 𝕄 :=
  iprop((bigSep Finset.univ fun ch : Ch => any (F := F) c (chM ch.1 0 ch.2)) ∗ (bigSep Finset.univ fun ch : Ch => any (F := F) c (chM ch.1 1 ch.2))
    ∗ (bigSep Finset.univ fun k : Fin 8 => any (F := F) c (rowM k)) ∗ (bigSep Finset.univ fun ch : Ch => any (F := F) c (outM ch.1 ch.2)))

/-- The buffers at the end. -/
def MemE (c : Dev nD) : sProp 𝕄 :=
  iprop((bigSep Finset.univ fun ch : Ch => any (F := F) c (chM ch.1 0 ch.2)) ∗ (bigSep Finset.univ fun ch : Ch => any (F := F) c (chM ch.1 1 ch.2))
    ∗ any (F := F) c aM ∗ (bigSep Finset.univ fun ch : Ch => outOwn c ch (ov xs ws c ch)))

theorem bigSep_fin8 (Φ : Fin 8 → sProp 𝕄) : bigSep Finset.univ Φ = iprop(Φ 0 ∗ bigSep Finset.univ fun k : Fin 7 => Φ k.succ) := by
  rw [bigSep_univ_at _ (0 : Fin 8), show (Finset.univ.erase (0 : Fin 8)) = Finset.univ.map (Fin.succEmb 7) from by decide, bigSep_map]; rfl

theorem bigSep_two (Φ : Fin 2 → sProp 𝕄) : bigSep Finset.univ Φ = iprop(Φ 0 ∗ Φ 1) := bigSep_fin_two Φ

theorem ext_intro (c : Dev nD) (s : ℕ) : ext (F := F) c (false, 0) s ⊢ bigSep Finset.univ fun ch : Ch => ext (F := F) c (ch.1, ch.2) s := by
  have e : bigSep (Finset.univ.erase ((false, 0) : Ch)) (fun ch : Ch => ext (F := F) c (ch.1, ch.2) s) = (iprop(emp) : sProp 𝕄) :=
    (bigSep_congr fun ch hch => by unfold ext; exact if_neg (Finset.ne_of_mem_erase hch)).trans (bigSep_emp_const _)
  rw [bigSep_univ_at _ ((false, 0) : Ch), e]
  iintro H
  isplitl [H]; · iexact H
  iempintro

theorem ext_elim (c : Dev nD) (s : ℕ) : (bigSep Finset.univ fun ch : Ch => ext (F := F) c (ch.1, ch.2) s) ⊢ ext (F := F) c (false, 0) s :=
  bigSep_elim (Φ := fun ch : Ch => ext (F := F) c (ch.1, ch.2) s) (Finset.mem_univ ((false, 0) : Ch))

theorem ext_rows (c : Dev nD) : rowsFrom (F := F) (dn c false) 1 ⊢ ext (F := F) c (false, 0) 0 := by
  unfold ext rowsFrom
  rw [if_pos rfl, dn_false]
  have e : ∀ k : Fin 7, min (k.val + 1) (0 + 1) = 1 := fun k => by omega
  simp only [e]
  simp only [show ∀ k : Fin 7, 1 ≤ k.val + 1 from fun k => by omega, if_true]
  exact .rfl

theorem rowsFrom_all (c : Dev nD) : (bigSep Finset.univ fun k : Fin 7 => any (F := F) c (rowM k.succ)) ⊢ rowsFrom (F := F) c 1 := by
  unfold rowsFrom
  simp only [show ∀ k : Fin 7, 1 ≤ k.val + 1 from fun k => by omega, if_true]
  exact .rfl

theorem pos_open (c : Dev nD) : (bigSep Finset.univ fun k : Ck => (atPos ER (kcell c k) 0 ∅ 0 : sProp 𝕄))
    ⊢ iprop(atPos ER (kcell c .bar) 0 ∅ 0 ∗ (bigSep Finset.univ fun ch : Ch => posn (F := F) c ch.1 ch.2 0)
      ∗ (bigSep Finset.univ fun ch : Ch => atPos ER (kcell c (.crd ch.1 ch.2)) 0 ∅ 0) ∗ (bigSep Finset.univ (rowPos (F := F) c 0))
      ∗ (atPos ER (kcell c (.asnd 0)) 0 ∅ 0 ∗ atPos ER (kcell c (.arcv 0)) 0 ∅ 0)
      ∗ (bigSep Finset.univ fun ch : Ch => atPos ER (kcell c (.out ch.1 ch.2)) 0 ∅ 0)) := by
  unfold posn
  rw [bigSep_Ck, rowPos_split, bigSep_fin8 (fun k => atPos ER (kcell c (.asnd k)) 0 ∅ 0), bigSep_fin8 (fun k => atPos ER (kcell c (.arcv k)) 0 ∅ 0)]
  simp only [bigSep_two, bigSep_sep']
  iintro ⟨Hb, ⟨Hs0, Hs1⟩, ⟨Hr0, Hr1⟩, Hc, ⟨Ha0, Ha⟩, ⟨Hv0, Hv⟩, Ho⟩
  isplitl [Hb]; · iexact Hb
  isplitl [Hs0 Hs1 Hr0 Hr1]
  · isplitl [Hr1]; · iexact Hr1
    isplitl [Hr0]; · iexact Hr0
    isplitl [Hs0]; · iexact Hs0
    iexact Hs1
  isplitl [Hc]; · iexact Hc
  isplitl [Ha Hv]
  · isplitl [Ha]; · iexact Ha
    iexact Hv
  isplitl [Ha0 Hv0]
  · isplitl [Ha0]; · iexact Ha0
    iexact Hv0
  iexact Ho

theorem pos_close (c : Dev nD) : iprop(atPos ER (kcell c .bar) 1 ∅ 0 ∗ (bigSep Finset.univ fun ch : Ch => posn (F := F) c ch.1 ch.2 7)
      ∗ (bigSep Finset.univ fun ch : Ch => atPos ER (kcell c (.crd ch.1 ch.2)) 6 ∅ 0) ∗ (bigSep Finset.univ (rowPos (F := F) c 1))
      ∗ (atPos ER (kcell c (.asnd 0)) 0 ∅ 0 ∗ atPos ER (kcell c (.arcv 0)) 0 ∅ 0)
      ∗ (bigSep Finset.univ fun ch : Ch => atPos ER (kcell c (.out ch.1 ch.2)) 1 ∅ 0))
    ⊢ (bigSep Finset.univ fun k : Ck => (atPos ER (kcell c k) (fin k) ∅ 0 : sProp 𝕄)) := by
  unfold posn
  rw [bigSep_Ck, rowPos_split, bigSep_fin8 (fun k => atPos ER (kcell c (.asnd k)) (fin (.asnd k)) ∅ 0), bigSep_fin8 (fun k => atPos ER (kcell c (.arcv k)) (fin (.arcv k)) ∅ 0)]
  simp only [bigSep_two, bigSep_sep']
  have ha : ∀ k : Fin 7, fin (.asnd k.succ) = 1 := fun k => by unfold fin; exact if_neg (Fin.succ_ne_zero k)
  have hv : ∀ k : Fin 7, fin (.arcv k.succ) = 1 := fun k => by unfold fin; exact if_neg (Fin.succ_ne_zero k)
  simp only [ha, hv]
  iintro ⟨Hb, ⟨Hr0, Hr1, Hs1, Hs0⟩, Hc, ⟨Ha, Hv⟩, ⟨Ha0, Hv0⟩, Ho⟩
  isplitl [Hb]; · iexact Hb
  isplitl [Hs0 Hs1]
  · isplitl [Hs0]; · iexact Hs0
    iexact Hs1
  isplitl [Hr0 Hr1]
  · isplitl [Hr0]; · iexact Hr0
    iexact Hr1
  isplitl [Hc]; · iexact Hc
  isplitl [Ha Ha0]
  · isplitl [Ha0]; · iexact Ha0
    iexact Ha
  isplitl [Hv Hv0]
  · isplitl [Hv0]; · iexact Hv0
    iexact Hv
  iexact Ho

section Run
variable (K : Dev nD × Ck → ℕ)

/-- The wait for both neighbours' greetings. -/
theorem wp_bar (c : Dev nD) (Q : PUnit → sProp 𝕄) :
    iprop(recs xs ws K ∗ cred (tallyAt (kcell c .bar) 0 2) ∗ ow (F := F) c 2 ∗ atPos ER (kcell c .bar) 0 ∅ 0
        ∗ (ow (F := F) c 2 -∗ atPos ER (kcell c .bar) 1 ∅ 0 -∗ (barPay (F := F) c false ∗ barPay (F := F) c true) -∗ Q ⟨⟩))
      ⊢ WP c (semWaitWord barS 2#32) Q := by
  unfold ow
  iintro ⟨#HR, Hc, ⟨%W, HO⟩, Hat, HQ⟩
  iapply (Rounds.wp_wait_rest_token 𝒱₀ ER (Rd xs ws) (c : Thread nD τ) none (κ := K (c, .bar)) (sm := csem .bar) (k' := 2)
    (wpE_semWait_eq 𝒱₀ (c : Thread nD τ) none Set.univ) (Set.mem_univ _) 0
    (O := O c 2) (W := W) (R := 0) (m := 0) (T := ∅)
    (by rw [Nat.zero_add, Rd_expect xs ws c .bar 0]; rfl)) $$ [Hc HO Hat]
  · isplitr; · iapply (recs_inv xs ws K c .bar); iexact HR
    isplitl [Hc]; · iexact Hc
    isplitl [HO]; · iexact HO
    isplitr; · iapply (mayWait_cell c .bar 0 2 (by omega) (fun e he => lv_due_bar e he)); iapply (recs_lev xs ws K); iexact HR
    iexact Hat
  iintro ⟨HO, Hat, -, Hpay⟩
  iapply (le_wp_ret _ _ _ _ _)
  iapply HQ $$ [HO] [Hat] [Hpay]
  · iexists _; iexact HO
  · iexact Hat
  · iapply (Entails.of_eq (Rd_rest_bar xs ws c)); iexact Hpay

theorem st0_all (c : Dev nD) :
    iprop((bigSep Finset.univ fun ch : Ch => posn (F := F) c ch.1 ch.2 0)
      ∗ (bigSep Finset.univ fun ch : Ch => atPos ER (kcell c (.crd ch.1 ch.2)) 0 ∅ 0)
      ∗ (bigSep Finset.univ fun ch : Ch => any (F := F) c (chM ch.1 0 ch.2))
      ∗ (barPay (F := F) c false ∗ barPay (F := F) c true)
      ∗ (bigSep Finset.univ fun ch : Ch => rest (crRes (F := F) c ch.1 ch.2) 0)
      ∗ (bigSep Finset.univ fun ch : Ch => rest (tokRes (F := F) c ch.1 ch.2) 0)
      ∗ (bigSep Finset.univ fun ch : Ch => rest (credRes (F := F) c ch.1 ch.2) 0))
      ⊢ bigSep Finset.univ fun ch : Ch => St0 (F := F) c ch.1 ch.2 := by
  unfold St0 barPay
  simp only [bigSep_sep']
  rw [bigSep_ch (fun ch : Ch => any (F := F) (dn c ch.1) (chM ch.1 1 ch.2))]
  iintro ⟨H1, H2, H3, ⟨⟨H4, H5⟩, H6, -⟩, H7, H8, H9⟩
  isplitl [H1]; · iexact H1
  isplitl [H2]; · iexact H2
  isplitl [H3]; · iexact H3
  isplitl [H4 H6]
  · isplitl [H4]; · iexact H4
    iexact H6
  isplitl [H7]; · iexact H7
  isplitl [H8]; · iexact H8
  isplitl [H9]; · iexact H9
  iapply (ext_intro c 0); iapply (ext_rows c); iexact H5

theorem stF_all (c : Dev nD) :
    (bigSep Finset.univ fun ch : Ch => StF xs ws c ch.1 ch.2)
      ⊢ iprop((bigSep Finset.univ fun ch : Ch => posn (F := F) c ch.1 ch.2 7)
      ∗ (bigSep Finset.univ fun ch : Ch => atPos ER (kcell c (.crd ch.1 ch.2)) 6 ∅ 0)
      ∗ (bigSep Finset.univ fun ch : Ch => chOwn c (ch.1, ch.2) 0 (yv xs ws c (ch.1, ch.2)))
      ∗ (bigSep Finset.univ fun ch : Ch => any (F := F) c (chM ch.1 1 ch.2))
      ∗ (bigSep Finset.univ fun k : Fin 7 => any (F := F) (sh c (k.val + 1)) (rowM k.succ))) := by
  unfold StF
  simp only [bigSep_sep']
  rw [← ext_end]
  iintro ⟨H1, H2, H3, H4, H5⟩
  isplitl [H1]; · iexact H1
  isplitl [H2]; · iexact H2
  isplitl [H3]; · iexact H3
  isplitl [H4]; · iexact H4
  iapply (ext_elim c 6); iexact H5

theorem rowIn_all (c : Dev nD) :
    iprop((bigSep Finset.univ fun k : Fin 7 => any (F := F) (sh c (k.val + 1)) (rowM k.succ))
      ∗ (bigSep Finset.univ fun k : Fin 7 => dutyTok ER (kcell c (.asnd k.succ)) 0 false)
      ∗ (bigSep Finset.univ fun k : Fin 7 => dutyTok ER (kcell (sh c (k.val + 1)) (.arcv k.succ)) 0 false))
      ⊢ bigSep Finset.univ (rowIn (F := F) c) := by
  unfold rowIn
  simp only [bigSep_sep']
  exact .rfl

theorem OA_all (c : Dev nD) :
    iprop((bigSep Finset.univ fun ch : Ch => chOwn c (ch.1, ch.2) 0 (yv xs ws c (ch.1, ch.2)))
      ∗ (bigSep Finset.univ fun ch : Ch => any (F := F) c (outM ch.1 ch.2))
      ∗ (bigSep Finset.univ fun ch : Ch => dutyTok ER (kcell c (.out ch.1 ch.2)) 0 false)
      ∗ (bigSep Finset.univ fun ch : Ch => atPos ER (kcell c (.out ch.1 ch.2)) 0 ∅ 0))
      ⊢ bigSep Finset.univ fun ch : Ch => OA xs ws c ch.1 ch.2 := by
  unfold OA
  simp only [bigSep_sep']
  exact .rfl

theorem OB_all (c : Dev nD) :
    (bigSep Finset.univ fun ch : Ch => OB xs ws c ch.1 ch.2)
      ⊢ iprop((bigSep Finset.univ fun ch : Ch => outOwn c ch (ov xs ws c ch))
      ∗ (bigSep Finset.univ fun ch : Ch => any (F := F) c (chM ch.1 0 ch.2))
      ∗ (bigSep Finset.univ fun ch : Ch => atPos ER (kcell c (.out ch.1 ch.2)) 1 ∅ 0)) := by
  unfold OB
  simp only [bigSep_sep']
  iintro ⟨⟨H1, H2⟩, H3⟩
  isplitl [H1]; · iexact H1
  isplitl [H2]
  · have h : (bigSep Finset.univ fun ch : Ch => (chOwn c (ch.1, ch.2) 0 (ov xs ws c (ch.1, ch.2)) : sProp 𝕄)) ⊢ bigSep Finset.univ fun ch : Ch => any (F := F) c (chM ch.1 0 ch.2) :=
      bigSep_mono fun ch _ => chOwn_any c ch.1 ch.2 0 _
    iapply h; iexact H2
  iexact H3

theorem ownBody_run (c : Dev nD) (Q : PUnit → sProp 𝕄) :
    iprop(recs xs ws K ∗ xPts xs c ∗ wPts ws c ∗ (bigSep Finset.univ fun k : Ck => atPos ER (kcell c k) 0 ∅ 0) ∗ Toks (F := F) c ∗ Creds (F := F) c
        ∗ (bigSep Finset.univ fun ch : Ch => rest (credRes (F := F) c ch.1 ch.2) 0) ∗ MemS (F := F) c ∗ ow (F := F) c 0
        ∗ (xPts xs c -∗ wPts ws c -∗ (bigSep Finset.univ fun k : Ck => atPos ER (kcell c k) (fin k) ∅ 0) -∗ MemE xs ws c -∗ ow (F := F) c 217 -∗ Q ⟨⟩))
      ⊢ WP c ownBody Q := by
  have e : (ownBody : BP F PUnit) = (Prog.lift .deviceId >>= fun c => semSignalWord (up c false) barS 1#32 >>= fun _ => semSignalWord (up c true) barS 1#32 >>= fun _ =>
      semWaitWord barS 2#32 >>= fun _ => initRound c >>= fun _ => (runs [0, 1, 2, 3, 4, 5] fun s => midRound c s) >>= fun _ => lastRound c >>= fun am =>
      amaxRound c am >>= fun g => outRound g) := by
    unfold ownBody runs; rfl
  rw [e]
  simp only [WP, wp_bind]
  rw [show (Prog.lift .deviceId : BP F (Dev nD)) = .op .deviceId .ret from rfl, wp_deviceId]
  unfold Toks Creds MemS
  rw [bigSep_fin8]
  iintro ⟨#HR, Hx, Hw, Hpos, ⟨⟨Htb0, Htb1⟩, Htok, Hta, Htv, Hto⟩, ⟨Hcb, Hcr, Hcrow⟩, Hcd, ⟨Hm0, Hm1, ⟨Hr0, Hrow⟩, Hmo⟩, HO, HQ⟩
  ihave Hpos := pos_open c $$ Hpos
  icases Hpos with ⟨Hpb, Hpch, Hpcr, Hprow, Hp0, Hpo⟩
  ihave Hm1 := (Entails.of_eq (bigSep_ch (fun ch : Ch => any (F := F) c (chM ch.1 1 ch.2)))) $$ Hm1
  icases Hm1 with ⟨Hmf, Hmr⟩
  iapply (le_wp_ret _ _ _ _ _)
  iapply (wp_sig xs ws K c (D.bar false) barS (up c false) rfl rfl false 0 (Finset.mem_univ _) rfl rfl)
  isplitr; · iexact HR
  isplitl [HO]; · iexact HO
  isplitl [Htb0]; · iexact Htb0
  isplitl [Hmf Hrow]
  · simp only [dCk, payK, barPay]
    rw [dn_up]
    isplitl [Hmf]; · iexact Hmf
    iapply (rowsFrom_all c); iexact Hrow
  isplitr; · iapply (recs_reached xs ws K (up c false) .bar); iexact HR
  iintro HO
  iapply (wp_sig xs ws K c (D.bar true) barS (up c true) rfl rfl true 0 (Finset.mem_univ _) rfl rfl)
  isplitr; · iexact HR
  isplitl [HO]; · iexact HO
  isplitl [Htb1]; · iexact Htb1
  isplitl [Hmr]
  · simp only [dCk, payK, barPay]
    rw [dn_up]
    isplitl [Hmr]; · iexact Hmr
    iempintro
  isplitr; · iapply (recs_reached xs ws K (up c true) .bar); iexact HR
  iintro HO
  iapply (wp_bar xs ws K c)
  isplitr; · iexact HR
  isplitl [Hcb]; · iexact Hcb
  isplitl [HO]; · iexact HO
  isplitl [Hpb]; · iexact Hpb
  iintro HO Hpb Hpay
  ihave HS := st0_all c $$ [Hpch Hpcr Hm0 Hpay Hcr Htok Hcd]
  · isplitl [Hpch]; · iexact Hpch
    isplitl [Hpcr]; · iexact Hpcr
    isplitl [Hm0]; · iexact Hm0
    isplitl [Hpay]; · iexact Hpay
    isplitl [Hcr]; · iexact Hcr
    isplitl [Htok]; · iexact Htok
    iexact Hcd
  iapply (initRound_run xs ws K c)
  isplitr; · iexact HR
  isplitl [Hx]; · iexact Hx
  isplitl [Hw]; · iexact Hw
  isplitl [HS]; · iexact HS
  isplitl [HO]; · iexact HO
  iintro Hx Hw HS HO
  iapply (midRounds_run xs ws K c)
  isplitr; · iexact HR
  isplitl [Hx]; · iexact Hx
  isplitl [Hw]; · iexact Hw
  isplitl [HS]; · iexact HS
  isplitl [HO]; · iexact HO
  iintro Hx Hw HS HO
  iapply (lastRound_run xs ws K c)
  isplitr; · iexact HR
  isplitl [Hx]; · iexact Hx
  isplitl [Hw]; · iexact Hw
  isplitl [HS]; · iexact HS
  isplitl [HO]; · iexact HO
  iintro Hx Hw HS HO
  ihave HS := stF_all xs ws c $$ HS
  icases HS with ⟨Hpch, Hpcr, Hy, Hm1, Hrows⟩
  ihave Hin := rowIn_all c $$ [Hrows Hta Htv]
  · isplitl [Hrows]; · iexact Hrows
    isplitl [Hta]; · iexact Hta
    iexact Htv
  iapply (amaxRound_run xs ws K c)
  isplitr; · iexact HR
  isplitl [Hr0]; · iexact Hr0
  isplitl [Hin]; · iexact Hin
  isplitl [Hprow]; · iexact Hprow
  isplitl [Hcrow]; · iexact Hcrow
  isplitl [HO]; · iexact HO
  iintro Ham Hprow HO
  ihave HA := OA_all xs ws c $$ [Hy Hmo Hto Hpo]
  · isplitl [Hy]; · iexact Hy
    isplitl [Hmo]; · iexact Hmo
    isplitl [Hto]; · iexact Hto
    iexact Hpo
  iapply (outRound_run xs ws K c)
  isplitr; · iexact HR
  isplitl [HA]; · iexact HA
  isplitl [HO]; · iexact HO
  iintro HB HO
  ihave HB := OB_all xs ws c $$ HB
  icases HB with ⟨Hout, Hm0, Hpo⟩
  ihave Hpos := pos_close c $$ [Hpb Hpch Hpcr Hprow Hp0 Hpo]
  · isplitl [Hpb]; · iexact Hpb
    isplitl [Hpch]; · iexact Hpch
    isplitl [Hpcr]; · iexact Hpcr
    isplitl [Hprow]; · iexact Hprow
    isplitl [Hp0]; · iexact Hp0
    iexact Hpo
  iapply HQ $$ Hx Hw Hpos [Hout Hm0 Hm1 Ham] HO
  unfold MemE
  isplitl [Hm0]; · iexact Hm0
  isplitl [Hm1]; · iexact Hm1
  isplitl [Ham]; · iexact Ham
  iexact Hout

end Run

end Cert.KernelIdeal.Own

end
-- ==== Proof.Mem.lean ====
/- The buffers, whole and in parts. -/
module

public import proofs.«01_k».proof.Proof.Body
public import Idealize.ShloMosaic.Lib.Ring

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Splitting and joining a buffer -/

theorem ow_ex {sp : Space} {s : Shape} {e : EltTy} (c : Dev nD) (m : Memref sig .tc sp s e) (X : s.Idx → Elt F e) :
    (owns (c : Thread nD τ) m fullShare X : sProp 𝕄) ⊢ iprop(∃ Y, owns (c : Thread nD τ) m fullShare Y) := by
  iintro H; iexists _; iexact H

theorem any_pts {sp : Space} {s : Shape} {e : EltTy} (c : Dev nD) (m : Memref sig .tc sp s e) :
    any (F := F) c m ⊢ iprop(∃ f, m.view.loc (c : Thread nD τ) ↦[m.view.set]{fullShare} f) := by
  unfold any owns
  iintro ⟨%X, %f, %hf, H⟩
  iexists f; iexact H

theorem any_split {sp : Space} {s : Shape} {e : EltTy} (c : Dev nD) (m : Memref sig .tc sp s e) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    any (F := F) c m ⊢ bigSep Finset.univ fun t => any (F := F) c (m.slice (r t) (hr t)) := by
  unfold any
  iintro ⟨%X, H⟩
  have h : (owns (c : Thread nD τ) m fullShare X : sProp 𝕄) ⊢ bigSep Finset.univ fun t => iprop(∃ Y, owns (c : Thread nD τ) (m.slice (r t) (hr t)) fullShare Y) :=
    (owns_rects (c : Thread nD τ) m fullShare r hr hd hcov X).trans (bigSep_mono fun t _ => ow_ex c (m.slice (r t) (hr t)) _)
  iapply h; iexact H

theorem pts_any {sp : Space} {s : Shape} {e : EltTy} (c : Dev nD) (m : Memref sig .tc sp s e) :
    iprop(∃ f, m.view.loc (c : Thread nD τ) ↦[m.view.set]{fullShare} f) ⊢ any (F := F) c m := by
  unfold any owns
  iintro ⟨%g, H⟩
  iexists _; iexists g
  isplitr; · ipureintro; rfl
  iexact H

theorem slice_cov {sp : Space} {s : Shape} {e : EltTy} (v : View sig .tc sp s e) {T : Type} [Fintype T] [DecidableEq T] (r : T → Rect s)
    (hcov : (Finset.univ : Finset T).biUnion (fun t => (r t).set) = Finset.univ) :
    (Finset.univ : Finset T).biUnion (fun t => (v.slice (r t)).set) = v.set := by
  have hs : ∀ t, (v.slice (r t)).set = (r t).set.map v.emb := fun t => View.set_slice ..
  ext i
  rw [Finset.mem_biUnion, View.set, Finset.mem_map]
  constructor
  · rintro ⟨t, -, h⟩
    rw [hs, Finset.mem_map] at h
    obtain ⟨x, -, h⟩ := h
    exact ⟨x, Finset.mem_univ _, h⟩
  · rintro ⟨x, -, h⟩
    obtain ⟨t, -, hx⟩ := Finset.mem_biUnion.mp (hcov.symm ▸ Finset.mem_univ x)
    exact ⟨t, Finset.mem_univ _, by rw [hs, Finset.mem_map]; exact ⟨x, hx, h⟩⟩

theorem any_join {sp : Space} {s : Shape} {e : EltTy} (c : Dev nD) (m : Memref sig .tc sp s e) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    (bigSep Finset.univ fun t => any (F := F) c (m.slice (r t) (hr t))) ⊢ any (F := F) c m := by
  have h1 : (bigSep Finset.univ fun t => any (F := F) c (m.slice (r t) (hr t)))
      ⊢ bigSep Finset.univ fun t => iprop(∃ f, m.view.loc (c : Thread nD τ) ↦[(m.view.slice (r t)).set]{fullShare} f) :=
    bigSep_mono fun t _ => any_pts c (m.slice (r t) (hr t))
  have hD : ∀ t t', t ≠ t' → Disjoint (m.view.slice (r t)).set (m.view.slice (r t')).set := fun t t' h => by
    rw [View.set_slice, View.set_slice]; exact (Finset.disjoint_map _).mpr (hd t t' h)
  have f₀ : Buf (Elt F) (m.view.loc (c : Thread nD τ)) := fun _ => Classical.arbitrary _
  exact h1.trans ((Ring.pointsTo_sub_blocks_join_exists (ℓ := m.view.loc (c : Thread nD τ)) (fun t => (m.view.slice (r t)).set) hD m.view.set (slice_cov m.view r hcov) f₀).trans (pts_any c m))

/-! ## The buffers of the partial sums -/

theorem ch_any (c : Dev nD) (d : Bool) (σ : Fin 2) (j : Fin 8) :
    any (F := F) c ((commM d).slice (chR σ j) (fun _ => rfl)) ⊢ any (F := F) c (chM d σ j) := by
  unfold any owns
  iintro ⟨%X, %f, %hf, H⟩
  iexists _; iexists f
  isplitr; · ipureintro; rfl
  have e : (chM d σ j).view.set = ((commM d).slice (chR σ j) (fun _ => rfl)).view.set := (ch_set d σ j).symm
  rw [e]; iexact H

theorem any_ch (c : Dev nD) (d : Bool) (σ : Fin 2) (j : Fin 8) :
    any (F := F) c (chM d σ j) ⊢ any (F := F) c ((commM d).slice (chR σ j) (fun _ => rfl)) := by
  unfold any owns
  iintro ⟨%X, %f, %hf, H⟩
  iexists _; iexists f
  isplitr; · ipureintro; rfl
  have e : ((commM d).slice (chR σ j) (fun _ => rfl)).view.set = (chM d σ j).view.set := ch_set d σ j
  rw [e]; iexact H

theorem ch_disj (t t' : Fin 2 × Fin 8) (h : t ≠ t') : Disjoint (chR t.1 t.2).set (chR t'.1 t'.2).set := by
  obtain ⟨σ, j⟩ := t; obtain ⟨σ', j'⟩ := t'
  by_cases hσ : σ = σ'
  · have hj : j.val ≠ j'.val := fun e => h (by rw [hσ, Fin.ext e])
    refine Rect.unit_disjoint (2 : Fin 3) ?_
    show 512 * j.val + 512 ≤ 512 * j'.val ∨ 512 * j'.val + 512 ≤ 512 * j.val
    omega
  · have hσ' : σ.val ≠ σ'.val := fun e => hσ (Fin.ext e)
    refine Rect.unit_disjoint (0 : Fin 3) ?_
    show σ.val + 1 ≤ σ'.val ∨ σ'.val + 1 ≤ σ.val
    omega

theorem ch_cov : (Finset.univ : Finset (Fin 2 × Fin 8)).biUnion (fun t => (chR t.1 t.2).set) = Finset.univ := by
  ext i
  simp only [Finset.mem_biUnion, Finset.mem_univ, _root_.true_and, iff_true]
  have h2 : (i 2).val < 4096 := (i 2).isLt
  have h1 : (i 1).val < 512 := (i 1).isLt
  refine ⟨(i 0, ⟨(i 2).val / 512, by omega⟩), Rect.mem_set_unit.mpr fun a => ?_⟩
  fin_cases a
  · exact ⟨le_refl (i 0).val, Nat.lt_succ_self (i 0).val⟩
  · exact ⟨Nat.zero_le (i 1).val, by show (i 1).val < 0 + 512; omega⟩
  · exact ⟨by show 512 * ((i 2).val / 512) ≤ (i 2).val; omega, by show (i 2).val < 512 * ((i 2).val / 512) + 512; omega⟩

theorem comm_split (c : Dev nD) (d : Bool) : any (F := F) c (commM d)
    ⊢ iprop((bigSep Finset.univ fun j : Fin 8 => any (F := F) c (chM d 0 j)) ∗ (bigSep Finset.univ fun j : Fin 8 => any (F := F) c (chM d 1 j))) := by
  refine (any_split c (commM d) (fun t : Fin 2 × Fin 8 => chR t.1 t.2) (fun _ _ => rfl) ch_disj ch_cov).trans ?_
  refine (bigSep_mono fun t _ => ch_any c d t.1 t.2).trans ?_
  rw [bigSep_univ_prod, bigSep_two]
  exact BI.Entails.refl _

theorem comm_join (c : Dev nD) (d : Bool) :
    iprop((bigSep Finset.univ fun j : Fin 8 => any (F := F) c (chM d 0 j)) ∗ (bigSep Finset.univ fun j : Fin 8 => any (F := F) c (chM d 1 j)))
      ⊢ any (F := F) c (commM d) := by
  refine BIBase.Entails.trans ?_ (any_join c (commM d) (fun t : Fin 2 × Fin 8 => chR t.1 t.2) (fun _ _ => rfl) ch_disj ch_cov)
  refine BIBase.Entails.trans ?_ (bigSep_mono fun (t : Fin 2 × Fin 8) _ => any_ch c d t.1 t.2)
  rw [bigSep_univ_prod, bigSep_two]

theorem any_whole {b : Ref sig .tc} (c : Dev nD) : any (F := F) c (Memref.whole b) = iprop(∃ f : Buf (Elt F) ((c : Thread nD τ).loc b), ((c : Thread nD τ).loc b) ↦{fullShare} f) := by
  unfold any
  exact congrArg _ (funext fun f => owns_whole (c : Thread nD τ) b fullShare f)

/-! ## The result -/

theorem out_disj (t t' : Ch) (h : t ≠ t') : Disjoint (wR t.1 t.2).set (wR t'.1 t'.2).set := by
  refine Rect.unit_disjoint (1 : Fin 2) ?_
  obtain ⟨d, j⟩ := t; obtain ⟨d', j'⟩ := t'
  have hn : d.toNat * 4096 + 512 * j.val ≠ d'.toNat * 4096 + 512 * j'.val := fun e => h (by
    have hj := j.isLt; have hj' := j'.isLt
    cases d <;> cases d' <;> simp only [Bool.toNat_true, Bool.toNat_false] at e <;>
      first | omega | exact congrArg _ (Fin.ext (by omega)))
  show d.toNat * 4096 + 512 * j.val + 512 ≤ d'.toNat * 4096 + 512 * j'.val ∨ d'.toNat * 4096 + 512 * j'.val + 512 ≤ d.toNat * 4096 + 512 * j.val
  omega

/-- The chunk a column of the result is in. -/
def chOf (q : ℕ) : Ch := (decide (4096 ≤ q), ⟨q / 512 % 8, Nat.mod_lt _ (by decide)⟩)

theorem chOf_bounds (q : ℕ) (h : q < 8192) : (chOf q).1.toNat * 4096 + 512 * (chOf q).2.val ≤ q ∧ q < (chOf q).1.toNat * 4096 + 512 * (chOf q).2.val + 512 := by
  unfold chOf
  by_cases hq : 4096 ≤ q
  · simp only [hq, decide_true, Bool.toNat_true]; omega
  · simp only [hq, decide_false, Bool.toNat_false]; omega

theorem out_cov : (Finset.univ : Finset Ch).biUnion (fun t => (wR t.1 t.2).set) = Finset.univ := by
  ext i
  simp only [Finset.mem_biUnion, Finset.mem_univ, _root_.true_and, iff_true]
  have h1 : (i 1).val < 8192 := (i 1).isLt
  have h0 : (i 0).val < 512 := (i 0).isLt
  refine ⟨chOf (i 1).val, Rect.mem_set_unit.mpr fun a => ?_⟩
  fin_cases a
  · exact ⟨Nat.zero_le _, by show (i 0).val < 0 + 512; omega⟩
  · exact chOf_bounds _ h1

variable (xs : Dev nD → XC F) (ws : Dev nD → WC F)

/-- The place of a column in its chunk. -/
def inCh (i : S512x8192.Idx) : S512x512.Idx :=
  fun a => match a with | ⟨0, _⟩ => (⟨(i 0).val, (i 0).isLt⟩ : Fin 512) | ⟨1, _⟩ => (⟨(i 1).val % 512, Nat.mod_lt _ (by decide)⟩ : Fin 512)

/-- Device `c`'s rows of the result. -/
def outv (c : Dev nD) : FVec F S512x8192 .f32 := fun i => ov xs ws c (chOf (i 1).val) (inCh i)

theorem chOf_emb (d : Bool) (j : Fin 8) (q : ℕ) (h : q < 512) : chOf (d.toNat * 4096 + 512 * j.val + 1 * q) = (d, j) := by
  have hj := j.isLt
  unfold chOf
  cases d
  · refine Prod.ext (decide_eq_false (by simp only [Bool.toNat_false]; omega)) (Fin.ext ?_)
    simp only [Bool.toNat_false]; omega
  · refine Prod.ext (decide_eq_true (by simp only [Bool.toNat_true]; omega)) (Fin.ext ?_)
    simp only [Bool.toNat_true]; omega

theorem outv_chunk (c : Dev nD) (ch : Ch) : (fun y => outv xs ws c ((wR ch.1 ch.2).emb y)) = ov xs ws c ch := by
  funext y
  have h1 : (y 1).val < 512 := (y 1).isLt
  have e1 : (((wR ch.1 ch.2).emb y) 1).val = ch.1.toNat * 4096 + 512 * ch.2.val + 1 * (y 1).val := rfl
  have e0 : (((wR ch.1 ch.2).emb y) 0).val = 0 + 1 * (y 0).val := rfl
  unfold outv
  rw [e1, chOf_emb _ _ _ h1]
  refine congrArg (ov xs ws c ch) (funext fun a => ?_)
  fin_cases a
  · exact Fin.ext (by show (((wR ch.1 ch.2).emb y) 0).val = (y 0).val; rw [e0]; omega)
  · refine Fin.ext ?_
    show (((wR ch.1 ch.2).emb y) 1).val % 512 = (y 1).val
    rw [e1]; omega

theorem out_join (c : Dev nD) : (bigSep Finset.univ fun ch : Ch => outOwn c ch (ov xs ws c ch)) ⊢ (owns (c : Thread nD τ) oM fullShare (outv xs ws c) : sProp 𝕄) := by
  have h := owns_of_rects (Ix := ℕ) (Name := ℕ) (U := UU) (Lvl := ℕ) (Val := Elt F) (c : Thread nD τ) oM fullShare (fun t : Ch => wR t.1 t.2) (fun _ _ => rfl) out_disj out_cov (outv xs ws c)
  refine BIBase.Entails.trans (bigSep_mono fun ch _ => ?_) h
  rw [outv_chunk]
  exact BI.Entails.refl _

/-! ## All of a device's memory -/

theorem mem_open (c : Dev nD) : iprop(any (F := F) c (commM false) ∗ any (F := F) c (commM true) ∗ any (F := F) c aM ∗ any (F := F) c oM) ⊢ MemS (F := F) c := by
  unfold MemS
  rw [bigSep_ch (fun ch : Ch => any (F := F) c (chM ch.1 0 ch.2)), bigSep_ch (fun ch : Ch => any (F := F) c (chM ch.1 1 ch.2))]
  iintro ⟨Hf, Hr, Ha, Ho⟩
  ihave Hf := comm_split c false $$ Hf
  ihave Hr := comm_split c true $$ Hr
  icases Hf with ⟨Hf0, Hf1⟩
  icases Hr with ⟨Hr0, Hr1⟩
  isplitl [Hf0 Hr0]
  · isplitl [Hf0]; · iexact Hf0
    iexact Hr0
  isplitl [Hf1 Hr1]
  · isplitl [Hf1]; · iexact Hf1
    iexact Hr1
  isplitl [Ha]
  · iapply (any_split c aM rowR (fun _ _ => rfl) rows_disj rows_cov); iexact Ha
  iapply (any_split c oM (fun t : Ch => wR t.1 t.2) (fun _ _ => rfl) out_disj out_cov); iexact Ho

theorem mem_close (c : Dev nD) : MemE xs ws c
    ⊢ iprop(any (F := F) c (commM false) ∗ any (F := F) c (commM true) ∗ any (F := F) c aM ∗ owns (c : Thread nD τ) oM fullShare (outv xs ws c)) := by
  unfold MemE
  rw [bigSep_ch (fun ch : Ch => any (F := F) c (chM ch.1 0 ch.2)), bigSep_ch (fun ch : Ch => any (F := F) c (chM ch.1 1 ch.2))]
  iintro ⟨⟨Hf0, Hr0⟩, ⟨Hf1, Hr1⟩, Ha, Ho⟩
  isplitl [Hf0 Hf1]
  · iapply (comm_join c false)
    isplitl [Hf0]; · iexact Hf0
    iexact Hf1
  isplitl [Hr0 Hr1]
  · iapply (comm_join c true)
    isplitl [Hr0]; · iexact Hr0
    iexact Hr1
  isplitl [Ha]; · iexact Ha
  iapply (out_join xs ws c); iexact Ho

end Cert.KernelIdeal.Own

end
-- ==== Proof.Ghost.lean ====
/- The launch's ghost state: tokens, credit, and the cells' invariants. -/
module

public import proofs.«01_k».proof.Proof.Mem

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The tokens as minted: by who pays -/

/-- The payments of a device, credited to any cell. -/
abbrev TI : Type := Bool ⊕ (Ch × Fin 7) ⊕ (Ch × Fin 7) ⊕ (Ch × Fin 6) ⊕ Fin 7 ⊕ Fin 7 ⊕ Ch

def tTo (c : Dev nD) : TI → Dev nD
  | .inl b => up c b
  | .inr (.inl _) => c
  | .inr (.inr (.inl p)) => dn c p.1.1
  | .inr (.inr (.inr (.inl p))) => up c p.1.1
  | .inr (.inr (.inr (.inr (.inl _)))) => c
  | .inr (.inr (.inr (.inr (.inr (.inl k))))) => sh c (k.val + 1)
  | .inr (.inr (.inr (.inr (.inr (.inr _))))) => c
def tCk : TI → Ck
  | .inl _ => .bar
  | .inr (.inl p) => .snd p.1.1 (slot p.2.val) p.1.2
  | .inr (.inr (.inl p)) => .rcv p.1.1 (slot (p.2.val + 1)) p.1.2
  | .inr (.inr (.inr (.inl p))) => .crd p.1.1 p.1.2
  | .inr (.inr (.inr (.inr (.inl k)))) => .asnd k.succ
  | .inr (.inr (.inr (.inr (.inr (.inl k))))) => .arcv k.succ
  | .inr (.inr (.inr (.inr (.inr (.inr ch))))) => .out ch.1 ch.2
def tR : TI → ℕ
  | .inl _ => 0
  | .inr (.inl p) => p.2.val / 2
  | .inr (.inr (.inl p)) => p.2.val / 2
  | .inr (.inr (.inr (.inl p))) => p.2.val
  | .inr (.inr (.inr (.inr _))) => 0
def tD : TI → Bool
  | .inl b => b
  | .inr _ => false

theorem tTo_inj (i : TI) : Function.Injective fun c => tTo c i := by
  rcases i with b | p | p | p | k | k | ch
  · exact (ringDn b).symm.injective
  · exact fun _ _ h => h
  · exact (ringDn p.1.1).injective
  · exact (ringDn p.1.1).symm.injective
  · exact fun _ _ h => h
  · exact (ringSh k.succ).injective
  · exact fun _ _ h => h

theorem tKey_inj (a b : TI) (h1 : tCk a = tCk b) (h2 : tR a = tR b) (h3 : tD a = tD b) : a = b := by
  rcases a with a | ⟨⟨d, j⟩, s⟩ | ⟨⟨d, j⟩, s⟩ | ⟨⟨d, j⟩, s⟩ | k | k | ⟨d, j⟩ <;>
    rcases b with a' | ⟨⟨d', j'⟩, s'⟩ | ⟨⟨d', j'⟩, s'⟩ | ⟨⟨d', j'⟩, s'⟩ | k' | k' | ⟨d', j'⟩ <;>
    simp only [tCk, tR, tD, Ck.snd.injEq, Ck.rcv.injEq, Ck.crd.injEq, Ck.asnd.injEq, Ck.arcv.injEq, Ck.out.injEq, Fin.mk.injEq, reduceCtorEq] at h1 h2 h3
  · rw [h3]
  · obtain ⟨rfl, h, rfl⟩ := h1
    have : s = s' := Fin.ext (by omega)
    rw [this]
  · obtain ⟨rfl, h, rfl⟩ := h1
    have : s = s' := Fin.ext (by omega)
    rw [this]
  · obtain ⟨rfl, rfl⟩ := h1
    rw [Fin.ext h2]
  · rw [Fin.succ_injective _ h1]
  · rw [Fin.succ_injective _ h1]
  · obtain ⟨rfl, rfl⟩ := h1
    rfl

def tokOf (p : Dev nD × TI) : GSem nD τ sig × ℕ × Bool := (kcell (tTo p.1 p.2) (tCk p.2), tR p.2, tD p.2)

theorem tokOf_inj : Function.Injective tokOf := by
  rintro ⟨c, i⟩ ⟨c', i'⟩ h
  have h1 := kcell_inj (a₁ := (tTo c i, tCk i)) (a₂ := (tTo c' i', tCk i')) (congrArg (fun x => x.1) h)
  have h2 : i = i' := tKey_inj i i' (congrArg Prod.snd h1) (congrArg (fun x => x.2.1) h) (congrArg (fun x => x.2.2) h)
  subst h2
  rw [tTo_inj i (congrArg Prod.fst h1)]

def ringCells : Finset (GSem nD τ sig) := Finset.univ.map ⟨fun p : Dev nD × Ck => kcell p.1 p.2, kcell_inj⟩
def ringToks : Finset (GSem nD τ sig × ℕ × Bool) := Finset.univ.map ⟨tokOf, tokOf_inj⟩

/-- The tokens of the payments device `c` makes. -/
def tokAll (c : Dev nD) : sProp 𝕄 := bigSep Finset.univ fun i : TI => dutyTok ER (kcell (tTo c i) (tCk i)) (tR i) (tD i)

/-- The tokens of its credits. -/
def crdToks (c : Dev nD) : sProp 𝕄 :=
  bigSep Finset.univ fun ch : Ch => bigSep Finset.univ fun s : Fin 6 => dutyTok ER (kcell (up c ch.1) (.crd ch.1 ch.2)) s.val false

theorem bigSep_bool {M : Type*} [URA M] (Φ : Bool → sProp M) : bigSep Finset.univ Φ = iprop(Φ false ∗ Φ true) :=
  bigSep_univ_eq_bigSepL [false, true] (by decide) (by decide) Φ

theorem bigSep_TI {M : Type*} [URA M] (Φ : TI → sProp M) : bigSep Finset.univ Φ = iprop((Φ (.inl false) ∗ Φ (.inl true))
    ∗ (bigSep Finset.univ fun ch : Ch => bigSep Finset.univ fun s : Fin 7 => Φ (.inr (.inl (ch, s))))
    ∗ (bigSep Finset.univ fun ch : Ch => bigSep Finset.univ fun s : Fin 7 => Φ (.inr (.inr (.inl (ch, s)))))
    ∗ (bigSep Finset.univ fun ch : Ch => bigSep Finset.univ fun s : Fin 6 => Φ (.inr (.inr (.inr (.inl (ch, s))))))
    ∗ (bigSep Finset.univ fun k : Fin 7 => Φ (.inr (.inr (.inr (.inr (.inl k))))))
    ∗ (bigSep Finset.univ fun k : Fin 7 => Φ (.inr (.inr (.inr (.inr (.inr (.inl k)))))))
    ∗ (bigSep Finset.univ fun ch : Ch => Φ (.inr (.inr (.inr (.inr (.inr (.inr ch)))))))) := by
  rw [bigSep_univ_sum, bigSep_univ_sum, bigSep_univ_sum, bigSep_univ_sum, bigSep_univ_sum, bigSep_univ_sum,
    bigSep_univ_prod (α := Ch), bigSep_univ_prod (α := Ch), bigSep_univ_prod (α := Ch), bigSep_bool]
  rfl

theorem bigSep_D {M : Type*} [URA M] (Φ : D → sProp M) : bigSep Finset.univ Φ = iprop((Φ (.inl false) ∗ Φ (.inl true))
    ∗ (bigSep Finset.univ fun ch : Ch => bigSep Finset.univ fun s : Fin 7 => Φ (.inr (.inl (ch, s))))
    ∗ (bigSep Finset.univ fun ch : Ch => bigSep Finset.univ fun s : Fin 6 => Φ (.inr (.inr (.inl (ch, s)))))
    ∗ (bigSep Finset.univ fun k : Fin 7 => Φ (.inr (.inr (.inr k))))) := by
  rw [bigSep_univ_sum, bigSep_univ_sum, bigSep_univ_sum, bigSep_univ_prod (α := Ch), bigSep_univ_prod (α := Ch), bigSep_bool]
  rfl

theorem tokRes_fn (c : Dev nD) (d : Bool) (j : Fin 8) : (tokRes (F := F) c d j) = fun s =>
    iprop(dutyTok ER (kcell c (.snd d (slot s.val) j)) (s.val / 2) false
      ∗ dutyTok ER (kcell (dn c d) (.rcv d (slot (s.val + 1)) j)) (s.val / 2) false) := rfl
theorem credRes_fn (c : Dev nD) (d : Bool) (j : Fin 8) : (credRes (F := F) c d j) = fun s =>
    iprop(cred (tallyAt (kcell c (.crd d j)) s.val 1) ∗ dutyTok ER (kcell (up c d) (.crd d j)) s.val false) := rfl

theorem tokAll_split (c : Dev nD) : tokAll (F := F) c ⊢ iprop(Toks (F := F) c ∗ crdToks (F := F) c) := by
  unfold tokAll Toks crdToks
  simp only [rest_zero, tokRes_fn]
  rw [bigSep_TI]
  simp only [bigSep_sep']
  iintro ⟨⟨Hb, Hb'⟩, Hs, Hr, Hc, Ha, Hv, Ho⟩
  isplitr [Hc]
  · isplitl [Hb Hb']
    · isplitl [Hb]
      · iexact Hb
      · iexact Hb'
    isplitl [Hs Hr]
    · isplitl [Hs]
      · iexact Hs
      · iexact Hr
    isplitl [Ha]; · iexact Ha
    isplitl [Hv]; · iexact Hv
    iexact Ho
  · iexact Hc

/-! ## The credit of a launch -/

/-- What all devices owe at the start. -/
def O₀ (c : Dev nD) : CellTallies nD τ sig ℕ := O c 0

def dInv (c : Dev nD) : D → Dev nD
  | .inl b => dn c b
  | .inr (.inl p) => up c p.1.1
  | .inr (.inr (.inl p)) => dn c p.1.1
  | .inr (.inr (.inr k)) => sh c (8 - k.succ.val)

theorem dTo_dInv (e : D) (c : Dev nD) : dTo (dInv c e) e = c := by
  rcases e with b | p | p | k
  · exact (ringDn b).symm_apply_apply c
  · exact (ringDn p.1.1).apply_symm_apply c
  · exact (ringDn p.1.1).symm_apply_apply c
  · exact (ringSh k.succ).apply_symm_apply c
theorem dInv_dTo (e : D) (c : Dev nD) : dInv (dTo c e) e = c := by
  rcases e with b | p | p | k
  · exact (ringDn b).apply_symm_apply c
  · exact (ringDn p.1.1).symm_apply_apply c
  · exact (ringDn p.1.1).apply_symm_apply c
  · exact (ringSh k.succ).symm_apply_apply c

theorem creds_all (c : Dev nD) :
    (Pipeline.launchCred O₀ c : sProp 𝕄) ⊢ bigSep Finset.univ fun e : D => cred (tallyAt (kcell c (dCk e)) (dI e) (dA e)) := by
  have h0 : O₀ = fun d => ∑ e ∈ (Finset.univ : Finset D), dT d e := funext fun d => O_zero d
  rw [h0, Pipeline.launchCred_sum Finset.univ (fun e d => dT d e) c]
  exact bigSep_mono fun e _ => Pipeline.launchCred_tallyAt (csem (dCk e)) (fun d => dTo d e) (fun d => dInv d e) (dTo_dInv e) (dInv_dTo e) (dI e) (dA e) c

theorem bar_two (c : Dev nD) :
    iprop(cred (tallyAt (kcell c .bar) 0 1) ∗ cred (tallyAt (kcell c .bar) 0 1)) ⊢ (cred (tallyAt (kcell c .bar) 0 2) : sProp 𝕄) :=
  (cred_add _ _).2.trans (Entails.of_eq (congrArg cred (tallyAt_add _ _ 1 1)))

theorem creds_split (c : Dev nD) : iprop((Pipeline.launchCred O₀ c : sProp 𝕄) ∗ crdToks (F := F) c)
    ⊢ iprop(Creds (F := F) c ∗ bigSep Finset.univ fun ch : Ch => rest (credRes (F := F) c ch.1 ch.2) 0) := by
  have h := creds_all (F := F) c
  unfold Creds crdToks
  simp only [rest_zero, credRes_fn]
  rw [bigSep_D] at h
  simp only [bigSep_sep']
  iintro ⟨Hl, Ht⟩
  ihave Hl' := h $$ Hl
  icases Hl' with ⟨⟨Hb, Hb'⟩, Hc, Hk, Hr⟩
  isplitr [Hk Ht]
  · isplitl [Hb Hb']
    · iapply (bar_two c)
      isplitl [Hb]
      · iexact Hb
      · iexact Hb'
    isplitl [Hc]; · iexact Hc
    iexact Hr
  · isplitl [Hk]
    · iexact Hk
    · iexact Ht

/-! ## The ghost state of the launch -/

variable (xs : Dev nD → XC F) (ws : Dev nD → WC F)

def poss (c : Dev nD) : sProp 𝕄 := bigSep Finset.univ fun k : Ck => atPos ER (kcell c k) 0 ∅ 0

/-- What the launch deals a device. -/
def G (c : Dev nD) : sProp 𝕄 :=
  iprop((bigSep Finset.univ fun k : Ck => roundState ER (Rd xs ws) (kcell c k) 0)
    ∗ (bigSep Finset.univ fun k : Ck => reached ER (kcell c k) 0) ∗ poss (F := F) c ∗ tokAll (F := F) c)

theorem fund_ring : BI.own (ER (initOf ringCells ringToks)) ⊢ (|==> bigSep Finset.univ (G xs ws) : sProp 𝕄) := by
  have hX (Φ : GSem nD τ sig → sProp 𝕄) : bigSep ringCells Φ = bigSep Finset.univ fun c : Dev nD => bigSep Finset.univ fun k : Ck => Φ (kcell c k) := by
    unfold ringCells; rw [bigSep_map, bigSep_univ_prod (α := Dev nD)]; rfl
  have hT : bigSep ringToks (fun x => (dutyTok ER x.1 x.2.1 x.2.2 : sProp 𝕄)) = bigSep Finset.univ fun c : Dev nD => tokAll c := by
    unfold ringToks; rw [bigSep_map, bigSep_univ_prod (α := Dev nD)]; rfl
  iintro HX
  imod (Rounds.fund ER (Rd xs ws) ringCells ringToks) $$ HX with ⟨Hst, Hr, Hat, Htok⟩
  imodintro
  ihave Hst' := (Entails.of_eq (hX fun g => roundState ER (Rd xs ws) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hr']; · iexact Hr'
  isplitl [Hat']; · iexact Hat'
  iexact Htok'

/-! ## The semaphores -/

/-- The kernel's own semaphores: all but the barrier's. -/
abbrev Own : Type := { k : Ck // k ≠ .bar }
def osem (k : Own) : SemLoc sig := csem k.1

theorem ck_scoped (k : Ck) (h : k ≠ .bar) : (csem k).isScoped .tc = true := by
  cases k with
  | bar => exact absurd rfl h
  | snd d σ j => revert d σ j; decide
  | rcv d σ j => revert d σ j; decide
  | crd d j => revert d j; decide
  | asnd k => revert k; decide
  | arcv k => revert k; decide
  | out d j => revert d j; decide

theorem ckCode_ge (k : Ck) : 2 ≤ ckCode k := by cases k <;> simp only [ckCode] <;> omega

theorem stage_code (w : Fin cfg0.W) (s : Fin (cfg0.spec w).nbuf) : semCode (.dma ((cfg0.spec w).sem s)) < 2 := by
  revert w s; decide

theorem ownSemFacts : Pipeline.OwnSemFacts cfg0.spec osem where
  isScoped k := ck_scoped k.1 k.2
  inj a b h := Subtype.ext (csem_inj h)
  disj k w s h := by
    have h1 := stage_code w s
    rw [← h] at h1
    have h2 := ckCode_ge k.1
    rw [← semCode_csem k.1] at h2
    exact absurd h1 (Nat.not_lt.mpr h2)

theorem unscopedSems0_eq (c : Dev nD) : (unscopedSems0 c : sProp 𝕄) = semVal (kcell c .bar) 0 := by
  unfold unscopedSems0; rw [bigSep_eq_bigSepL_of_eq [SemLoc.reg barS] (by decide) (by decide)]; rfl

theorem own_map : (Finset.univ : Finset Ck).erase .bar = Finset.univ.map (Function.Embedding.subtype fun k : Ck => k ≠ .bar) := by
  ext k; simp

theorem sems0_eq (c : Dev nD) :
    (bigSep Finset.univ fun k : Ck => semVal (kcell c k) 0 : sProp 𝕄)
      = iprop(unscopedSems0 c ∗ Pipeline.ownSems0 (Ix := ℕ) (Name := ℕ) (U := UU) (Lvl := ℕ) (Val := Elt F) (τ := τ) osem c) := by
  rw [unscopedSems0_eq, bigSep_univ_at _ Ck.bar, own_map, bigSep_map]; rfl

/-! ## The invariants -/

theorem core_alloc (c : Dev nD) :
    iprop(Pipeline.ownSems0 (Ix := ℕ) (Name := ℕ) (U := UU) (Lvl := ℕ) (Val := Elt F) (τ := τ) osem c ∗ unscopedSems0 c ∗ G xs ws c)
      ⊢ |={Set.univ}=> iprop((bigSep Finset.univ fun k : Ck => iprop(∃ κ : ℕ, cellInv ER (Rd xs ws) κ (kcell c k)))
          ∗ (bigSep Finset.univ fun k : Ck => reached ER (kcell c k) 0) ∗ poss (F := F) c ∗ tokAll (F := F) c) := by
  unfold G
  iintro ⟨Hos, Hus, Hst, Hr, Hat, Htok⟩
  ihave Hv := (Entails.of_eq (sems0_eq (F := F) c).symm) $$ [Hos Hus]
  · isplitl [Hus] <;> iassumption
  imod (show iprop((bigSep Finset.univ fun k : Ck => semVal (kcell c k) 0) ∗ bigSep Finset.univ fun k : Ck => roundState ER (Rd xs ws) (kcell c k) 0)
      ⊢ (|={Set.univ}=> bigSep Finset.univ fun k : Ck => iprop(∃ κ : ℕ, cellInv ER (Rd xs ws) κ (kcell c k)) : sProp 𝕄) from by
        rw [← bigSep_sep']
        exact (bigSep_mono fun k _ => (Rounds.body_intro ER (Rd xs ws) (kcell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The records but for the levels. -/
def recs0 (K : Dev nD × Ck → ℕ) : sProp 𝕄 :=
  iprop((bigSep Finset.univ fun p : Dev nD × Ck => cellInv ER (Rd xs ws) (K p) (kcell p.1 p.2))
    ∗ bigSep Finset.univ fun p : Dev nD × Ck => reached ER (kcell p.1 p.2) 0)

instance recs0_persistent (K : Dev nD × Ck → ℕ) : BI.Persistent (recs0 xs ws K) := by unfold recs0; infer_instance

/-- What the launch gives a device in the end. -/
def G' (c : Dev nD) : sProp 𝕄 := iprop(∃ K, recs0 xs ws K ∗ poss (F := F) c ∗ tokAll (F := F) c)

theorem deal_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ck => iprop(∃ κ : ℕ, cellInv ER (Rd xs ws) κ (kcell c k)))
          ∗ (bigSep Finset.univ fun k : Ck => reached ER (kcell c k) 0) ∗ poss (F := F) c ∗ tokAll (F := F) c) : sProp 𝕄)
      ⊢ bigSep Finset.univ (G' xs ws) := by
  rw [bigSep_sep', bigSep_sep', ← bigSep_univ_prod (fun p : Dev nD × Ck => iprop(∃ κ : ℕ, cellInv ER (Rd xs ws) κ (kcell p.1 p.2))),
    ← bigSep_univ_prod (fun p : Dev nD × Ck => (reached ER (kcell p.1 p.2) 0 : sProp 𝕄))]
  iintro ⟨HI, #HR, Hl⟩
  ihave HK := (BI.bigSep_exists_pi Finset.univ (fun (p : Dev nD × Ck) (κ : ℕ) => (cellInv ER (Rd xs ws) κ (kcell p.1 p.2) : sProp 𝕄))) $$ HI
  icases HK with ⟨%K, #HI⟩
  iapply (deal_persistent (R := recs0 xs ws K) fun c _ => show iprop(recs0 xs ws K ∗ poss (F := F) c ∗ tokAll (F := F) c) ⊢ G' xs ws c from by
    unfold G'; iintro H; iexists K; iexact H)
  isplitr
  · unfold recs0; isplitl; · iexact HI
    iexact HR
  · iexact Hl

/-- The global step: own and unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G xs ws c) : sProp 𝕄)
    ⊢ |={Set.univ}=> bigSep Finset.univ (G' xs ws) :=
  ((bigSep_mono fun c _ => core_alloc xs ws c).trans (bigSep_fupd _ _)).trans (BI.fupd_mono (regroup xs ws))

/-! ## The cells at the end -/

theorem close_all (K : Dev nD × Ck → ℕ) (c : Dev nD) :
    iprop(recs xs ws K ∗ bigSep Finset.univ fun k : Ck => atPos ER (kcell c k) (fin k) ∅ 0)
      ⊢ (|={Set.univ}=> bigSep Finset.univ fun k : Ck => semVal (kcell c k) 0 : sProp 𝕄) := by
  refine BIBase.Entails.trans (deal_persistent (Ψ := fun k : Ck => iprop(|={Set.univ}=> semVal (kcell c k) 0)) fun k _ => ?_) (bigSep_fupd _ _)
  refine BIBase.Entails.trans (sep_mono_left (recs_inv xs ws K c k)) ?_
  exact Rounds.cell_close ER (Rd xs ws) (Set.mem_univ _) (fun h => h) fun r hr => (Rd_duties xs ws c k r).trans (dutK_fin k r hr)

end Cert.KernelIdeal.Own

end
-- ==== Proof.Launch.lean ====
/- The launch: the body's obligation, and the run of the program on all devices. -/
module

public import proofs.«01_k».proof.Proof.Ghost
public import Idealize.ShloMosaic.Lib.Pipeline.CollectiveSegs

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Pipeline

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

variable (m : (ℓ : Loc nD τ sig) → Buf (Elt F) ℓ) (ρ : Dev nD → PrngReg)

/-- The initial state. -/
def s₀ : MemSt nD τ sig (Elt F) := ⟨m, fun _ => 0, ρ⟩

/-- A device's block of `x`, as its window stages it. -/
def xstg (c : Dev nD) : XC F := (win0_0.blk (0 : Fin 1)).view.read (Elt F) ((s₀ m ρ).mem ((c : Thread nD τ).loc main_arg0))
/-- A device's block of `w`. -/
def wstg (c : Dev nD) : WC F := (win0_1.blk (0 : Fin 1)).view.read (Elt F) ((s₀ m ρ).mem ((c : Thread nD τ).loc main_arg1))

/-- The output array's points-to at contents `v`. -/
abbrev outPts (c : Dev nD) (v : Buf (Elt F) ((c : Thread nD τ).loc main_v1)) : sProp 𝕄 := ((c : Thread nD τ).loc main_v1) ↦{fullShare} v

/-- What a device holds besides its buffers when its body starts. -/
def start (c : Dev nD) : sProp 𝕄 :=
  iprop((∃ K, recs (xstg m ρ) (wstg m ρ) K) ∗ poss (F := F) c ∗ Toks (F := F) c ∗ Creds (F := F) c
    ∗ (bigSep Finset.univ fun ch : Ch => rest (credRes (F := F) c ch.1 ch.2) 0) ∗ any (F := F) c oM)

def scr (c : Dev nD) : sProp 𝕄 := iprop(any (F := F) c (commM false) ∗ any (F := F) c (commM true) ∗ any (F := F) c aM)

def Φ₀ (c : Dev nD) : sProp 𝕄 := iprop(start m ρ c ∗ scr (F := F) c)
def Φ₁ (c : Dev nD) : sProp 𝕄 :=
  iprop(scr (F := F) c ∗ (bigSep Finset.univ fun k : Ck => semVal (kcell c k) 0) ∗ outPts c (outv (xstg m ρ) (wstg m ρ) c))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
  Φ t := match t with
    | ⟨0, _⟩ => Φ₀ m ρ c
    | ⟨_ + 1, _⟩ => Φ₁ m ρ c
  q _ := fullShare
  owed t := match t with
    | ⟨0, _⟩ => O c 0
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl
theorem fetch_1 (t : Fin cfg0.N) : (cfg0.win (1 : Fin 2)).fetch t = true := by rw [fin_N t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt 0 t₀.succ ∗ stg c cc0_stg0_0 (xstg m ρ c) ∗ stg c cc0_stg1_0 (wstg m ρ c))

theorem xs_in (c : Dev nD) : iprop(∃ d, stg c cc0_stg0_0 ((dats m ρ 0 c).before (0 : Fin 2) t₀ d)) ⊢ xPts (xstg m ρ) c := by
  iintro ⟨%d, %g, %hg, H⟩
  have h : g = xstg m ρ c := by rw [hg]; unfold Dat.before; rw [if_pos (fetch_0 t₀)]; rfl
  subst h
  first | (unfold xPts; iexact H) | (unfold wPts; iexact H)
theorem ws_in (c : Dev nD) : iprop(∃ d, stg c cc0_stg1_0 ((dats m ρ 0 c).before (1 : Fin 2) t₀ d)) ⊢ wPts (wstg m ρ) c := by
  iintro ⟨%d, %g, %hg, H⟩
  have h : g = wstg m ρ c := by rw [hg]; unfold Dat.before; rw [if_pos (fetch_1 t₀)]; rfl
  subst h
  first | (unfold xPts; iexact H) | (unfold wPts; iexact H)

theorem ow_in (c : Dev nD) : (dats m ρ 0 c).owesAt 0 t₀.castSucc ⊢ ow (F := F) c 0 := by
  unfold Dat.owesAt Pipeline.owesWithin ow
  iintro ⟨%W, %hW, H⟩
  iexists W
  iexact H
theorem ow_out (c : Dev nD) : ow (F := F) c 217 ⊢ (dats m ρ 0 c).owesAt 0 t₀.succ := by
  unfold Dat.owesAt Pipeline.owesWithin ow
  rw [O_end, show (dats m ρ 0 c).owed t₀.succ = 0 from rfl]
  iintro ⟨%W, H⟩
  iexists W
  isplitr
  · ipureintro; exact fun _ _ => Or.inl trivial
  iexact H

theorem mem_in (c : Dev nD) : iprop(scr (F := F) c ∗ any (F := F) c oM) ⊢ MemS (F := F) c := by
  unfold scr
  iintro ⟨⟨H1, H2, H3⟩, H4⟩
  iapply (mem_open (F := F) c)
  isplitl [H1]; · iexact H1
  isplitl [H2]; · iexact H2
  isplitl [H3]; · iexact H3
  iexact H4

theorem mem_out (xs : Dev nD → XC F) (ws : Dev nD → WC F) (c : Dev nD) : MemE xs ws c ⊢ iprop(scr (F := F) c ∗ outPts c (outv xs ws c)) := by
  refine BIBase.Entails.trans (mem_close xs ws c) ?_
  unfold scr
  iintro ⟨H1, H2, H3, H4⟩
  ihave H5 := (Entails.of_eq (owns_whole (Ix := ℕ) (Name := ℕ) (U := UU) (Lvl := ℕ) (c : Thread nD τ) main_v1 fullShare (outv xs ws c))) $$ H4
  isplitl [H1 H2 H3]
  · isplitl [H1]; · iexact H1
    isplitl [H2]; · iexact H2
    iexact H3
  iexact H5

theorem body_post (K : Dev nD × Ck → ℕ) (c : Dev nD) :
    iprop(recs (xstg m ρ) (wstg m ρ) K ∗ xPts (xstg m ρ) c ∗ wPts (wstg m ρ) c ∗ (bigSep Finset.univ fun k : Ck => atPos ER (kcell c k) (fin k) ∅ 0)
        ∗ MemE (xstg m ρ) (wstg m ρ) c ∗ ow (F := F) c 217) ⊢ |={Set.univ}=> bodyPost m ρ c := by
  unfold bodyPost Φ₁ xPts wPts
  iintro ⟨HR, Hx, Hw, Hp, Hm, Ho⟩
  imod (close_all (xstg m ρ) (wstg m ρ) K c) $$ [HR Hp] with Hz
  · isplitl [HR]
    · iexact HR
    · iexact Hp
  imodintro
  ihave Hm' := (mem_out (xstg m ρ) (wstg m ρ) c) $$ Hm
  icases Hm' with ⟨Hs, Hout⟩
  isplitl [Hs Hz Hout]
  · isplitl [Hs]; · iexact Hs
    isplitl [Hz]; · iexact Hz
    iexact Hout
  isplitl [Ho]
  · iapply (ow_out m ρ c); iexact Ho
  isplitl [Hx]
  · iexists _; isplitr
    · ipureintro; rfl
    iexact Hx
  iexists _; isplitr
  · ipureintro; rfl
  iexact Hw

theorem body_run (c : Dev nD) : bodyPre m ρ c ⊢ WP c ownBody (fun _ => bodyPost m ρ c) := by
  refine BIBase.Entails.trans ?_ (wp_fupd _ _ _ _ _)
  unfold bodyPre Φ₀ start poss
  iintro ⟨⟨⟨⟨%K, #HR⟩, Hp, Ht, Hc, Hcr, Hv⟩, Hs⟩, Ho, Hx, Hw⟩
  iapply (ownBody_run (xstg m ρ) (wstg m ρ) K c)
  isplitr; · iexact HR
  isplitl [Hx]; · iapply (xs_in m ρ c); iexact Hx
  isplitl [Hw]; · iapply (ws_in m ρ c); iexact Hw
  isplitl [Hp]; · iexact Hp
  isplitl [Ht]; · iexact Ht
  isplitl [Hc]; · iexact Hc
  isplitl [Hcr]; · iexact Hcr
  isplitl [Hs Hv]
  · iapply (mem_in (F := F) c)
    isplitl [Hs]
    · iexact Hs
    · iexact Hv
  isplitl [Ho]; · iapply (ow_in m ρ c); iexact Ho
  iintro Hx Hw Hp Hm Ho
  iapply (body_post m ρ K c)
  isplitr; · iexact HR
  isplitl [Hx]; · iexact Hx
  isplitl [Hw]; · iexact Hw
  isplitl [Hp]; · iexact Hp
  isplitl [Hm]; · iexact Hm
  iexact Ho

set_option maxRecDepth 65536 in
/-- The library's body obligation on core `c`. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  have h := body_run m ρ c
  rw [← body_eq t₀] at h
  exact h

/-! ## The launch -/

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m ρ) (wstg m ρ) c)
      ⊢ |={Set.univ}=> iprop(start m ρ c ∗ emp) := by
  rw [Pipeline.unscopedRestP_none, unscopedRest0_eq]
  unfold start G' recs recs0
  iintro ⟨Hv, #Hlev, Hcr, -, ⟨%K, ⟨#HI, #HR⟩, Hp, Ht⟩⟩
  ihave Ht' := (tokAll_split (F := F) c) $$ Ht
  icases Ht' with ⟨Ht, Hct⟩
  ihave Hc := (creds_split (F := F) c) $$ [Hcr Hct]
  · isplitl [Hcr]
    · iexact Hcr
    · iexact Hct
  icases Hc with ⟨Hc, Hcs⟩
  imodintro
  isplitl
  · isplitr
    · iexists K
      isplitr; · iexact HI
      isplitr; · iexact HR
      iexact Hlev
    isplitl [Hp]; · iexact Hp
    isplitl [Ht]; · iexact Ht
    isplitl [Hc]; · iexact Hc
    isplitl [Hcs]; · iexact Hcs
    iapply (Entails.of_eq (any_whole (F := F) (b := main_v1) c).symm)
    iexists (m ((c : Thread nD τ).loc main_v1))
    iexact Hv
  · iempintro

theorem scr_eq (c : Dev nD) : scr (F := F) c = Pipeline.scopedRest cfg0.spec c := by
  rw [scopedRest0_eq]
  unfold scr
  exact congr (congrArg _ (any_whole (F := F) (b := cc0_scratch0) c)) (congr (congrArg _ (any_whole (F := F) (b := cc0_scratch1) c)) (any_whole (F := F) (b := cc0_scratch2) c))

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scr_eq]
  unfold Φ₀
  iintro ⟨Hs, -, Hr⟩
  isplitl [Hs]; · iexact Hs
  iexact Hr

theorem phi1_exit (c : Dev nD) :
    (dats m ρ 0 c).Φ (Fin.last cfg0.N)
      ⊢ iprop((unscopedSems0 c ∗ outPts c (outv (xstg m ρ) (wstg m ρ) c)) ∗ Pipeline.ownSems0 osem c ∗ Pipeline.scopedRest cfg0.spec c) := by
  rw [show (dats m ρ 0 c).Φ (Fin.last cfg0.N) = Φ₁ m ρ c from rfl, ← scr_eq]
  unfold Φ₁
  rw [sems0_eq]
  iintro ⟨Hr, ⟨Hu, Ho⟩, Hv⟩
  isplitl [Hu Hv]
  · isplitl [Hu] <;> iassumption
  isplitl [Ho] <;> iassumption

theorem stage_lv (c : Dev nD) (w : Fin cfg0.W) (s : Fin (cfg0.spec w).nbuf) : lv ((c : Thread nD τ), .dma ((cfg0.spec w).sem s)) 0 = 0 := by
  have h : ckOf (.dma ((cfg0.spec w).sem s)) = none := by
    unfold ckOf Function.partialInv
    rw [dif_neg]
    rintro ⟨k, hk⟩
    have h1 := stage_code w s
    rw [← hk, semCode_csem] at h1
    exact absurd h1 (Nat.not_lt.mpr (ckCode_ge k))
  unfold lv
  simp only [h]

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | n, ht⟩
    · exact mayWait_gen c _ 0 0 0 (by decide) (le_of_eq (stage_lv c w s)) fun e _ => lv_due_pos e
    · have h := mayWait_gen (F := F) c (.dma ((cfg0.spec w).sem s)) 0 217 0 (by decide) (le_of_eq (stage_lv c w s)) fun e _ => lv_due_pos e
      rw [O_end] at h
      exact h

theorem read_out (c : Dev nD) (v : Buf (Elt F) ((c : Thread nD τ).loc main_v1)) (s' : Phys nD τ sig (Elt F)) :
    iprop((unscopedSems0 c ∗ outPts c v) ∗ iprop(emp) ∗ SI s')
      ⊢ (|={Set.univ}=> iprop(⌜s'.mem.mem ((c : Thread nD τ).loc main_v1) = v ∧ ∀ sm : SemLoc sig, sm.isScoped .tc = false → s'.mem.sem ((c.tc : Thread nD τ), sm) = 0⌝ ∗ SI s') : sProp 𝕄) := by
  iintro ⟨⟨Hu, Hv⟩, -, HSI⟩
  icombine HSI Hv gives %h
  imod (Pipeline.unscopedSems0_read (X := (unscopedSems0 c : sProp 𝕄)) (c := c) fupd_intro s') $$ [Hu HSI] with ⟨%h2, HSI⟩
  · isplitl [Hu] <;> iassumption
  imodintro
  isplitr
  · ipureintro
    exact ⟨funext fun i => h i (Finset.mem_univ i), h2⟩
  iexact HSI

/-! ## The run -/

/-- What every final state holds: the inputs unchanged, the output as computed. -/
def QC : PUnit × MemSt nD τ sig (Elt F) → Prop := fun r =>
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = outv (xstg m ρ) (wstg m ρ) c

set_option maxRecDepth 65536 in
/-- On the mesh of eight devices, for any float values, from any memory with zero counters: every weakly fair
    execution of @main ends, with each device's result as computed, its inputs unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ) (wstg m ρ)) (G' := G' (xstg m ρ) (wstg m ρ)) (u₀ := u₀)
    (hu₀ := by
      unfold u₀
      iintro Hu
      ihave H := (ownU_pair _ _) $$ Hu
      icases H with ⟨HP, HX⟩
      imod (fund_ring (xstg m ρ) (wstg m ρ)) $$ HX with HG
      imodintro
      isplitl [HP] <;> iassumption)
    (hglob := glob (xstg m ρ) (wstg m ρ))
    (hA := fun _ _ => rfl) (hpf := fun _ k => k.elim0)
    (X := start m ρ) (Y := fun c => iprop(unscopedSems0 c ∗ outPts c (outv (xstg m ρ) (wstg m ρ) c))) (Z := fun _ => iprop(emp))
    (hX := start_intro m ρ) (hin := phi0_intro m ρ) (hout := phi1_exit m ρ)
    (QY := fun c s => s.mem ((c : Thread nD τ).loc main_v1) = outv (xstg m ρ) (wstg m ρ) c
      ∧ ∀ sm : SemLoc sig, sm.isScoped .tc = false → s.sem ((c.tc : Thread nD τ), sm) = 0)
    (hY := fun c s' => read_out c _ s')
    (hQ := fun _ h hs => ⟨fun c => ⟨((h c).1 (0 : Fin 2)).trans ((dats (F := F) m ρ 0 c).arrAt_in (0 : Fin 2) rfl _),
      ((h c).1 (1 : Fin 2)).trans ((dats (F := F) m ρ 0 c).arrAt_in (1 : Fin 2) rfl _), (h c).2.2.1⟩, sem_eq_zero hs fun c => (h c).2.2.2⟩)

end Cert.KernelIdeal.Own

end
-- ==== Proof.Value.lean ====
/- Facts of the extended reals that the comparison with the reference uses: the three products the kernel
   takes of one pair of factors against the one product the reference takes of them, the greatest magnitude
   of a finite family named by its upper bounds, and the two ways of writing the scale of the quantiser. -/
module

public import Idealize.ShloMosaic.PureOps.Ideal.Laws

@[expose] public section

noncomputable section

namespace Cert.Value

open Idealize.ShloMosaic

/-- Not a real number. -/
def Inf (a : EReal) : Prop := a = ⊤ ∨ a = ⊥

/-- Equal, or both infinite (whatever their signs). -/
def Rel (a b : EReal) : Prop := a = b ∨ (Inf a ∧ Inf b)

theorem Inf.coe_or (a : EReal) : Inf a ∨ ∃ r : ℝ, a = (r : EReal) := by
  induction a with
  | bot => exact .inl (.inr rfl)
  | coe r => exact .inr ⟨r, rfl⟩
  | top => exact .inl (.inl rfl)

theorem Inf.add_left {c : EReal} (h : Inf c) (a : EReal) : Inf (a + c) := by
  rcases h with rfl | rfl
  · rcases Inf.coe_or a with (rfl | rfl) | ⟨r, rfl⟩
    · exact .inl (by simp)
    · exact .inr (by simp)
    · exact .inl (by simp)
  · exact .inr (by simp)

theorem Inf.add_right {c : EReal} (h : Inf c) (a : EReal) : Inf (c + a) := by
  rw [add_comm]; exact h.add_left a

theorem Inf.mul_left {c : EReal} (h : Inf c) {a : EReal} (ha : a ≠ 0) : Inf (a * c) := by
  rcases lt_or_gt_of_ne ha with h0 | h0 <;> rcases h with rfl | rfl
  · exact .inr (EReal.mul_top_of_neg h0)
  · exact .inl (EReal.mul_bot_of_neg h0)
  · exact .inl (EReal.mul_top_of_pos h0)
  · exact .inr (EReal.mul_bot_of_pos h0)

theorem Rel.add {a b c d : EReal} (h : Rel a b) (h' : Rel c d) : Rel (a + c) (b + d) := by
  rcases h with rfl | ⟨ha, hb⟩
  · rcases h' with rfl | ⟨hc, hd⟩
    · exact .inl rfl
    · exact .inr ⟨hc.add_left _, hd.add_left _⟩
  · exact .inr ⟨ha.add_right _, hb.add_right _⟩

theorem Rel.sum {ι : Type*} (s : Finset ι) (f g : ι → EReal) (h : ∀ i, Rel (f i) (g i)) :
    Rel (∑ i ∈ s, f i) (∑ i ∈ s, g i) :=
  Finset.sum_hom_rel (.inl rfl) fun i _ _ hr => (h i).add hr

theorem Rel.inf_iff {a b : EReal} (h : Rel a b) : Inf a ↔ Inf b := by
  rcases h with rfl | ⟨ha, hb⟩
  · rfl
  · exact ⟨fun _ => hb, fun _ => ha⟩

theorem Rel.eq_of_not {a b : EReal} (h : Rel a b) (hb : ¬ Inf b) : a = b := by
  rcases h with rfl | ⟨_, h⟩
  · rfl
  · exact absurd h hb

/-- The three products of a pair of factors, each cut in itself and what it leaves of itself. -/
def tri (x w : EReal) : EReal := x * w + x * (w - w) + (x - x) * w

/-- They are the one product, or both are infinite. -/
theorem rel_tri (x w : EReal) : Rel (tri x w) (x * w) := by
  unfold tri
  by_cases hx : x = 0
  · subst hx; exact .inl (by simp)
  by_cases hw : w = 0
  · subst hw; exact .inl (by simp)
  rcases Inf.coe_or x with ix | ⟨r, rfl⟩
  · have h : Inf (x * w) := by rw [mul_comm]; exact ix.mul_left hw
    exact .inr ⟨(h.add_right _).add_right _, h⟩
  rcases Inf.coe_or w with iw | ⟨q, rfl⟩
  · have h : Inf ((r : EReal) * w) := iw.mul_left hx
    exact .inr ⟨(h.add_right _).add_right _, h⟩
  · refine .inl ?_
    rw [← EReal.coe_sub, ← EReal.coe_sub]; simp

/-- The magnitude as both programs take it. -/
abbrev mag (a : EReal) : EReal := max a (-a)

theorem mag_nonneg (a : EReal) : 0 ≤ mag a := by
  rcases le_total 0 a with h | h
  · exact le_max_of_le_left h
  · exact le_max_of_le_right (by simpa using EReal.neg_le_neg_iff.mpr h)

theorem mag_inf {a : EReal} (h : Inf a) : mag a = ⊤ := by rcases h with rfl | rfl <;> simp [mag]

/-- The kernel multiplies by the reciprocal of the scale. -/
def qk (k g y : EReal) : EReal := min k (max (-k) (y * Ideal.div k g)) * Ideal.div g k
/-- The reference divides by the scale. -/
def qr (k g y : EReal) : EReal := min k (max (-k) (Ideal.div y (Ideal.div g k))) * Ideal.div g k

theorem div_top (y : EReal) : Ideal.div y ⊤ = 0 := by simp [Ideal.div]

theorem clip_zero (k : ℝ) (hk : 0 < k) : min (k : EReal) (max (-(k : EReal)) 0) = 0 := by
  have h : (0 : EReal) ≤ k := by exact_mod_cast hk.le
  have h' : -(k : EReal) ≤ 0 := by simpa using EReal.neg_le_neg_iff.mpr h
  rw [max_eq_right h', min_eq_right h]

theorem top_div (k : ℝ) (hk : 0 < k) : Ideal.div ⊤ (k : EReal) = ⊤ := by
  have h : (k : EReal) ≠ 0 := by exact_mod_cast hk.ne'
  rw [Ideal.div, if_neg h, ← EReal.coe_inv]
  exact EReal.top_mul_of_pos (by exact_mod_cast inv_pos.mpr hk)

theorem qk_top (k : ℝ) (hk : 0 < k) (y : EReal) : qk k ⊤ y = 0 := by
  rw [qk, div_top, mul_zero, clip_zero k hk, zero_mul]

theorem qr_top (k : ℝ) (hk : 0 < k) (y : EReal) : qr k ⊤ y = 0 := by
  rw [qr, top_div k hk, div_top, clip_zero k hk, zero_mul]

theorem q_zero (k : ℝ) (hk : 0 < k) (y y' : EReal) : qk k 0 y = qr k 0 y' := by
  have h : (k : EReal) ≠ 0 := by exact_mod_cast hk.ne'
  have e : Ideal.div 0 (k : EReal) = 0 := by rw [Ideal.div, if_neg h, zero_mul]
  rw [qk, qr, e, mul_zero, mul_zero]

theorem q_real (k r y : ℝ) (hk : 0 < k) (hr : 0 < r) : qk k r y = qr k r y := by
  have h : (k : EReal) ≠ 0 := by exact_mod_cast hk.ne'
  have h' : (r : EReal) ≠ 0 := by exact_mod_cast hr.ne'
  have e : Ideal.div (r : EReal) (k : EReal) = ((r * k⁻¹ : ℝ) : EReal) := by
    rw [Ideal.div, if_neg h, ← EReal.coe_inv, ← EReal.coe_mul]
  have e' : Ideal.div (k : EReal) (r : EReal) = ((k * r⁻¹ : ℝ) : EReal) := by
    rw [Ideal.div, if_neg h', ← EReal.coe_inv, ← EReal.coe_mul]
  have hp : ((r * k⁻¹ : ℝ) : EReal) ≠ 0 := by exact_mod_cast (mul_pos hr (inv_pos.mpr hk)).ne'
  have e3 : Ideal.div (y : EReal) ((r * k⁻¹ : ℝ) : EReal) = ((y * (r * k⁻¹)⁻¹ : ℝ) : EReal) := by
    rw [Ideal.div, if_neg hp, ← EReal.coe_inv, ← EReal.coe_mul]
  rw [qk, qr, e, e', e3, ← EReal.coe_mul]
  congr 5
  rw [mul_inv, inv_inv, mul_comm k]

/-- What a greatest magnitude is known by: the bounds that lie above it. -/
def IsMag {ι : Type*} (y : ι → EReal) (g : EReal) : Prop := ∀ b, g ≤ b ↔ 0 ≤ b ∧ ∀ i, mag (y i) ≤ b

theorem IsMag.eq {ι : Type*} {y : ι → EReal} {g g' : EReal} (h : IsMag y g) (h' : IsMag y g') : g = g' :=
  le_antisymm ((h g').mpr ((h' g').mp le_rfl)) ((h' g).mpr ((h g).mp le_rfl))

theorem IsMag.top {ι : Type*} {y : ι → EReal} {g : EReal} (h : IsMag y g) (i : ι) (hi : Inf (y i)) : g = ⊤ :=
  top_le_iff.mp (mag_inf hi ▸ ((h g).mp le_rfl).2 i)

/-- Two families equal up to infinities, each quantised by its own greatest magnitude, the one by the
    reciprocal and the other by the quotient, come out equal. -/
theorem quant_eq {ι : Type*} (k : ℝ) (hk : 0 < k) {y z : ι → EReal} {g g' : EReal} (hy : IsMag y g) (hz : IsMag z g')
    (h : ∀ i, Rel (y i) (z i)) (i : ι) : qk k g (y i) = qr k g' (z i) := by
  by_cases hi : ∃ j, Inf (z j)
  · obtain ⟨j, hj⟩ := hi
    rw [hy.top j ((h j).inf_iff.mpr hj), hz.top j hj, qk_top k hk, qr_top k hk]
  · have e : y = z := funext fun j => (h j).eq_of_not fun hj => hi ⟨j, hj⟩
    subst e
    obtain rfl := hy.eq hz
    have h0 : 0 ≤ g := ((hy g).mp le_rfl).1
    rcases Inf.coe_or g with (rfl | rfl) | ⟨r, rfl⟩
    · rw [qk_top k hk, qr_top k hk]
    · exact absurd h0 (by simp)
    · have hr : (0 : ℝ) ≤ r := by exact_mod_cast h0
      rcases hr.eq_or_lt with rfl | hr
      · exact q_zero k hk _ _
      · rcases Inf.coe_or (y i) with hi' | ⟨q, hq⟩
        · exact absurd ⟨i, hi'⟩ hi
        · rw [hq]; exact q_real k r q hk hr

/-! ## The words of the programs' constants, and the greatest element of a whole array -/

theorem word_zero : Ideal.ofBits .f32 0x00000000#32 = 0 := by simp [Ideal.ofBits, Ideal.ieee]
theorem word_bot : Ideal.ofBits .f32 0xFF800000#32 = ⊥ := by simp [Ideal.ofBits, Ideal.ieee]
theorem word_448 : Ideal.ofBits .f32 0x43E00000#32 = ((448 : ℝ) : EReal) := by
  simp [Ideal.ofBits, Ideal.ieee, -EReal.coe_mul]; norm_num
theorem word_neg448 : Ideal.ofBits .f32 0xC3E00000#32 = -((448 : ℝ) : EReal) := by
  simp [Ideal.ofBits, Ideal.ieee, -EReal.coe_mul]; norm_num

/-- A maximum over every axis but unit ones is below `b` exactly where every element is. -/
theorem max_le {s t : Shape} {axes : List (Fin s.rank)} (src : FVec Ideal s .f32) (h : s.Reduces axes t)
    (ht : ∀ b, t.size b = 1) (hφ : FKind.Formats .f32) (hacc : (0xFF800000#32 : BitVec 32) = FKind.maximumf.neutral .f32 hφ)
    (j : t.Idx) (b : EReal) :
    (multiReduction .maximumf axes t src 0xFF800000#32 h hφ hacc j : EReal) ≤ b ↔ ∀ i, src i ≤ b := by
  rw [multiReduction_maximumf_eq_fold]
  refine (Finset.fold_max_le b).trans ⟨fun H i => H.2 i (Finset.mem_filter.mpr ⟨Finset.mem_univ _, ?_⟩), fun H => ⟨?_, fun i _ => H i⟩⟩
  · exact funext fun a => Fin.ext (by have := (h.drop i a).isLt; have := (j a).isLt; have := ht a; omega)
  · show Ideal.ofBits .f32 0xFF800000#32 ≤ b
    rw [word_bot]; exact bot_le

/-- The same of the array under another shape, and of the one element taken out of the result. -/
theorem top_le {s t u w : Shape} {axes : List (Fin t.rank)} (v : FVec Ideal s .f32) (hc : s.ShapeCasts t) (h : t.Reduces axes u)
    (hu : ∀ b, u.size b = 1) (hφ : FKind.Formats .f32) (hacc : (0xFF800000#32 : BitVec 32) = FKind.maximumf.neutral .f32 hφ)
    (hc' : u.ShapeCasts w) (off : Fin w.rank → ℕ) (hin : ∀ a, off a < w.size a) (b : EReal) :
    (extractAt off (shapeCast w (multiReduction .maximumf axes u (shapeCast t v hc) 0xFF800000#32 h hφ hacc) hc') hin : EReal) ≤ b
      ↔ ∀ i, (v i : EReal) ≤ b := by
  refine (max_le (shapeCast t v hc) h hu hφ hacc _ b).trans ⟨fun H i => ?_, fun H i => H _⟩
  have e := H ((Shape.reshapeEquiv hc).symm i)
  have e' : shapeCast t v hc ((Shape.reshapeEquiv hc).symm i) = v i := congrArg v (Equiv.apply_symm_apply _ i)
  rw [e'] at e; exact e

theorem maximumf_le (a c : Ideal .f32) (b : EReal) : (Scalar.maximumf a c : EReal) ≤ b ↔ (a : EReal) ≤ b ∧ (c : EReal) ≤ b :=
  max_le_iff

end Cert.Value

end
-- ==== Proof.Algebra.lean ====
/- What the run computes, at the extended reals: every partial sum of a chunk as a sum over the devices it has
   passed, the collected greatest magnitude, and the result against the reference's. -/
module

public import proofs.«01_k».proof.Proof.Launch
public import proofs.«01_k».proof.Proof.Value
public import proofs.«01_k».proof.Proof.Gen.ReferenceIdeal.Value
public import Idealize.ShloMosaic.Lib.MatmulPlain
public import proofs.«01_k».proof.Defs

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open Cert.Value
open scoped BigOperators

/-! ## Places in the whole arrays -/

/-- Row or column `k` of device `c`'s eighth. -/
def cell (c : Dev nD) (k : Fin 512) : Fin 4096 := ⟨512 * c.val + k.val, by have : c.val < 8 := c.isLt; have := k.isLt; omega⟩
/-- Column `n` of a chunk. -/
def col (ch : Ch) (n : Fin 512) : Fin 8192 :=
  ⟨ch.1.toNat * 4096 + 512 * ch.2.val + n.val, by have := bool_toNat_lt ch.1; have := ch.2.isLt; have := n.isLt; omega⟩
/-- How far a chunk's sum moves at a step. -/
def md : Bool → ℕ | false => 7 | true => 1

theorem sh_turn (c : Dev nD) (a : ℕ) : sh c (a * (7 + 1)) = c := Fin.ext (by have : c.val < 8 := c.isLt; simp only [sh]; omega)
theorem up_eq (c : Dev nD) (d : Bool) : up c d = sh c (md d) := by cases d <;> [exact up_false c; exact up_true c]

theorem cell_surj (R : Fin 4096) : ∃ (c : Dev nD) (r : Fin 512), cell c r = R :=
  ⟨⟨R.val / 512, by have := R.isLt; show _ < 8; omega⟩, ⟨R.val % 512, Nat.mod_lt _ (by decide)⟩, Fin.ext (show 512 * (R.val / 512) + R.val % 512 = R.val by omega)⟩
theorem col_chOf (N : Fin 8192) : col (chOf N.val) ⟨N.val % 512, Nat.mod_lt _ (by decide)⟩ = N := by
  refine Fin.ext ?_
  have hN := N.isLt
  by_cases h : 4096 ≤ N.val
  · simp only [col, chOf, h, decide_true, Bool.toNat_true]; omega
  · simp only [col, chOf, h, decide_false, Bool.toNat_false]; omega

/-- A sum over an eighth for every device is the sum over the whole. -/
theorem sum_cells (f : Fin 4096 → EReal) : ∑ c : Dev nD, ∑ k : Fin 512, f (cell c k) = ∑ K, f K := by
  rw [← Fintype.sum_prod_type' (fun (c : Dev nD) (k : Fin 512) => f (cell c k)),
    ← Equiv.sum_comp (finProdFinEquiv (m := 8) (n := 512)) f]
  refine Finset.sum_congr rfl fun p _ => congrArg f (Fin.ext ?_)
  rw [finProdFinEquiv_apply_val]
  show 512 * p.1.val + p.2.val = p.2.val + 512 * p.1.val
  omega

/-- The devices a chunk's sum passes are all of them, each once. -/
theorem sum_ring (c : Dev nD) (d : Bool) (f : Dev nD → EReal) : ∑ e ∈ Finset.range 8, f (sh c (md d * e)) = ∑ c', f c' := by
  rw [Finset.sum_range]
  refine Function.Bijective.sum_comp (g := f) (e := fun e : Fin 8 => sh c (md d * e.val)) (Finite.injective_iff_bijective.mp fun a b h => Fin.ext ?_)
  have h' := congrArg Fin.val h
  have ha := a.isLt; have hb := b.isLt
  cases d <;> simp only [sh, md] at h' <;> omega

/-! ## The products of a step -/

theorem mm_apply (a b : FVec Ideal S512x512 .bf16) (r n : Fin 512) :
    mm a b (ix2 r n) = ∑ k : Fin 512, (a (ix2 r k) : EReal) * b (ix2 k n) := by
  have h := Ideal.matmul_plain_apply (M := 512) (K := 512) (N := 512) none a b (constant (F := Ideal) S512x512 .f32 0x00000000#32) r n
  refine h.trans ?_
  show Ideal.ofBits .f32 0x00000000#32 + _ = _
  rw [word_zero, zero_add]

theorem dot3_apply (x w : FVec Ideal S512x512 .f32) (r n : Fin 512) :
    (dot3 (F := Ideal) x w (ix2 r n) : EReal) = ∑ k : Fin 512, tri (x (ix2 r k)) (w (ix2 k n)) := by
  have e : ∀ v : FVec Ideal S512x512 .f32, shapeCast S512x512 v shapeCasts_S512x512_S512x512 = v :=
    fun v => funext fun j => congrArg v (Shape.reshapeEquiv_self _ j)
  show ((mm (F := Ideal) (hi x) (hi w) (ix2 r n) : EReal) + mm (F := Ideal) (hi x) (lo w) (ix2 r n)) + mm (F := Ideal) (lo x) (hi w) (ix2 r n) = _
  rw [mm_apply, mm_apply, mm_apply, ← Finset.sum_add_distrib, ← Finset.sum_add_distrib]
  refine Finset.sum_congr rfl fun k _ => ?_
  have eh : ∀ (v : FVec Ideal S512x512 .f32) j, (hi (F := Ideal) v j : EReal) = v j := fun v j => congrFun (e v) j
  have el : ∀ (v : FVec Ideal S512x512 .f32) j, (lo (F := Ideal) v j : EReal) = (v j : EReal) - v j := fun v j => by
    show (shapeCast S512x512 v shapeCasts_S512x512_S512x512 j : EReal) - hi (F := Ideal) v j = _
    rw [e, eh]
  rw [eh, eh, el, el, tri]

section Run

variable (xs : Dev nD → XC Ideal) (ws : Dev nD → WC Ideal)

theorem xv0_apply (c : Dev nD) (d : Bool) (r k : Fin 512) :
    xv0 xs c d (ix2 r k) = xs c (ix2 (cell (sh c (md d)) r) k) := by
  cases d
  · show xs c _ = _
    congr 1; funext a; apply Fin.ext
    match a with
    | ⟨0, _⟩ => show k0_off1 c 0 + 1 * r.val = _; rw [k0_off1_eq]; simp [cell, sh, md]
    | ⟨1, _⟩ => show k0_off1 c 1 + 1 * k.val = _; rw [k0_off1_eq]; simp
  · show xs c _ = _
    congr 1; funext a; apply Fin.ext
    match a with
    | ⟨0, _⟩ => show k0_off2 c 0 + 1 * r.val = _; rw [k0_off2_eq]; simp [cell, sh, md]
    | ⟨1, _⟩ => show k0_off2 c 1 + 1 * k.val = _; rw [k0_off2_eq]; simp

theorem xv_apply (c : Dev nD) (s : Fin 7) (d : Bool) (r k : Fin 512) :
    xv xs c s d (ix2 r k) = xs c (ix2 (cell (sh c (md d * (s.val + 2))) r) k) := by
  have hs := s.isLt
  cases d
  · show xs c _ = _
    congr 1; funext a; apply Fin.ext
    match a with
    | ⟨0, _⟩ =>
      show k0_off3 c (BitVec.ofNat 32 s.val) 0 + 1 * r.val = 512 * ((c.val + 7 * (s.val + 2)) % 8) + r.val
      rw [k0_off3_eq]; show 512 * ((c.val + 14 - s.val) % 8) + 1 * r.val = _; omega
    | ⟨1, _⟩ => show k0_off3 c (BitVec.ofNat 32 s.val) 1 + 1 * k.val = _; rw [k0_off3_eq]; simp
  · show xs c _ = _
    congr 1; funext a; apply Fin.ext
    match a with
    | ⟨0, _⟩ =>
      show k0_off4 c (BitVec.ofNat 32 s.val) 0 + 1 * r.val = 512 * ((c.val + 1 * (s.val + 2)) % 8) + r.val
      rw [k0_off4_eq]; show 512 * ((c.val + s.val + 2) % 8) + 1 * r.val = _; omega
    | ⟨1, _⟩ => show k0_off4 c (BitVec.ofNat 32 s.val) 1 + 1 * k.val = _; rw [k0_off4_eq]; simp

theorem wv_apply (c : Dev nD) (ch : Ch) (k n : Fin 512) : wv ws c ch (ix2 k n) = ws c (ix2 k (col ch n)) := by
  show ws c _ = _
  congr 1; funext a; apply Fin.ext
  match a with
  | ⟨0, _⟩ => show 0 + 1 * k.val = k.val; omega
  | ⟨1, _⟩ => show ch.1.toNat * 4096 + 512 * ch.2.val + 1 * n.val = ch.1.toNat * 4096 + 512 * ch.2.val + n.val; omega

variable (X : FVec Ideal ⟨2, ![4096, 4096]⟩ .f32) (W : FVec Ideal ⟨2, ![4096, 8192]⟩ .f32)
variable (hx : ∀ c r k, xs c (ix2 r k) = X (ix2 r (cell c k))) (hw : ∀ c k n, ws c (ix2 k n) = W (ix2 (cell c k) n))

/-- One position of the contraction, as the kernel takes it. -/
def term (R : Fin 4096) (N : Fin 8192) (K : Fin 4096) : EReal := tri (X (ix2 R K)) (W (ix2 K N))

include hx hw

/-- A partial sum: the devices passed so far, at the rows of the device the sum will end at. -/
theorem acc_apply (ch : Ch) (r n : Fin 512) : ∀ (s : ℕ), s ≤ 7 → ∀ c : Dev nD,
    acc xs ws ch s c (ix2 r n) = ∑ e ∈ Finset.range (s + 1), ∑ k : Fin 512,
      term X W (cell (sh c (md ch.1 * (s + 1))) r) (col ch n) (cell (sh c (md ch.1 * e)) k)
  | 0, _, c => by
    show dot3 (xv0 xs c ch.1) (wv ws c ch) (ix2 r n) = _
    rw [dot3_apply, Finset.sum_range_one, Nat.mul_zero, sh_zero, Nat.zero_add, Nat.mul_one]
    exact Finset.sum_congr rfl fun k _ => by rw [xv0_apply, wv_apply, hx, hw]; rfl
  | s + 1, hs, c => by
    show acc xs ws ch s (up c ch.1) (ix2 r n) + dot3 (xv xs c (st s) ch.1) (wv ws c ch) (ix2 r n) = _
    have est : (st s).val = s := Nat.mod_eq_of_lt (by omega)
    rw [acc_apply ch r n s (by omega), dot3_apply, up_eq, Finset.sum_range_succ' _ (s + 1), Nat.mul_zero, sh_zero]
    refine congrArg₂ (· + ·) (Finset.sum_congr rfl fun e _ => ?_) (Finset.sum_congr rfl fun k _ => ?_)
    · rw [sh_sh, sh_sh, show md ch.1 + md ch.1 * (s + 1) = md ch.1 * (s + 1 + 1) by ring, show md ch.1 + md ch.1 * e = md ch.1 * (e + 1) by ring]
    · rw [xv_apply, wv_apply, hx, hw, est]; rfl

/-- A chunk of the product, as the kernel takes it. -/
theorem yv_apply (c : Dev nD) (ch : Ch) (r n : Fin 512) :
    yv xs ws c ch (ix2 r n) = ∑ K, term X W (cell c r) (col ch n) K := by
  show acc xs ws ch 7 c (ix2 r n) = _
  rw [acc_apply xs ws X W hx hw ch r n 7 le_rfl c, sh_turn,
    sum_ring c ch.1 fun c' => ∑ k : Fin 512, term X W (cell c r) (col ch n) (cell c' k)]
  exact sum_cells _

omit hx hw

/-! ## The greatest magnitude -/

theorem step_le (a : Ideal .f32) (y : FVec Ideal S512x512 .f32) (b : EReal) :
    (amaxStep (F := Ideal) a y : EReal) ≤ b ↔ (a : EReal) ≤ b ∧ ∀ i, mag (y i) ≤ b :=
  (maximumf_le a _ b).trans (and_congr Iff.rfl (top_le (absf y) _ _ (by decide) _ _ _ _ _ b))

theorem amaxF_le (c : Dev nD) (b : EReal) : ∀ q, (amaxF xs ws c q : EReal) ≤ b ↔ 0 ≤ b ∧ ∀ q' < q, ∀ i, mag (yv xs ws c (chAt q') i) ≤ b
  | 0 => by
    show Ideal.ofBits .f32 0x00000000#32 ≤ b ↔ _
    rw [word_zero]; exact ⟨fun h => ⟨h, fun q' h' => absurd h' (by omega)⟩, fun h => h.1⟩
  | q + 1 => by
    show (amaxStep (F := Ideal) (amaxF xs ws c q) (yv xs ws c (chAt q)) : EReal) ≤ b ↔ _
    rw [step_le, amaxF_le c b q, and_assoc]
    refine and_congr Iff.rfl ⟨fun h q' hq => ?_, fun h => ⟨fun q' hq => h q' (by omega), h q (by omega)⟩⟩
    rcases Nat.lt_succ_iff_lt_or_eq.mp hq with hq | rfl
    · exact h.1 q' hq
    · exact h.2

theorem gv_isMag (c : Dev nD) :
    IsMag (fun p : (Dev nD × Ch) × S512x512.Idx => (yv xs ws p.1.1 p.1.2 p.2 : EReal)) (gv xs ws c) := by
  intro b
  refine (top_le (amaxAll xs ws c) _ _ (by decide) _ _ _ _ _ b).trans ?_
  constructor
  · intro h
    have h' : ∀ c', (amaxv xs ws c' : EReal) ≤ b := fun c' => by
      have hc : c.val < 8 := c.isLt; have hc' : c'.val < 8 := c'.isLt
      have e : (amaxv xs ws (sh c (8 - (c.val + 8 - c'.val) % 8)) : EReal) ≤ b :=
        h (ix2 ⟨(c.val + 8 - c'.val) % 8, Nat.mod_lt _ (by decide)⟩ 0)
      have e2 : sh c (8 - (c.val + 8 - c'.val) % 8) = c' := Fin.ext (by simp only [sh]; omega)
      rw [e2] at e; exact e
    refine ⟨((amaxF_le xs ws c b 16).mp (h' c)).1, fun p => ?_⟩
    have e := ((amaxF_le xs ws p.1.1 b 16).mp (h' p.1.1)).2 (num p.1.2) (num_lt _) p.2
    rw [chAt_num] at e; exact e
  · intro h i
    exact (amaxF_le xs ws _ b 16).mpr ⟨h.1, fun q _ j => h.2 ((_, chAt q), j)⟩

/-- The quantiser, element by element. -/
theorem quant_apply (g : Ideal .f32) (y : FVec Ideal S512x512 .f32) (i : S512x512.Idx) :
    (quant (F := Ideal) g y i : EReal) = qk (448 : ℝ) g (y i) := by
  rw [qk, ← word_neg448, ← word_448]; rfl

/-- A chunk of the result. -/
theorem ov_apply (c : Dev nD) (ch : Ch) (i : S512x512.Idx) :
    (ov xs ws c ch i : EReal) = qk (448 : ℝ) (gv xs ws c) (yv xs ws c ch i) :=
  quant_apply (gv xs ws c) (yv xs ws c ch) i

/-! ## The reference -/

/-- The product. -/
def prod (R : Fin 4096) (N : Fin 8192) : EReal := ∑ K : Fin 4096, (X (ix2 R K) : EReal) * W (ix2 K N)

set_option maxRecDepth 65536 in
theorem mat_apply (R : Fin 4096) (N : Fin 8192) :
    (matmul (F := Ideal) (DotDims.plain 4096 4096 8192) none X W (constant (F := Ideal) ⟨2, ![4096, 8192]⟩ .f32 0x00000000#32) (ix2 R N) : EReal) = prod X W R N := by
  refine (Ideal.matmul_plain_apply none X W _ R N).trans ?_
  show Ideal.ofBits .f32 0x00000000#32 + _ = _
  rw [word_zero, zero_add]; rfl

/-- The reference's greatest magnitude, for a product `M`. -/
def gref (M : FVec Ideal Cert.ReferenceIdeal.S4096x8192 .f32) : EReal :=
  extractAt ![0, 0, 0] (shapeCast Cert.ReferenceIdeal.S1x1x1 (multiReduction .maximumf [1, 2] Cert.ReferenceIdeal.S1
    (shapeCast Cert.ReferenceIdeal.S1x4096x8192 (absf M) Cert.ReferenceIdeal.Gen.shapeCasts_S4096x8192_S1x4096x8192) 0xFF800000#32
      Cert.ReferenceIdeal.Gen.reduces_S1x4096x8192_S1 (.inl rfl) rfl) Cert.ReferenceIdeal.Gen.shapeCasts_S1_S1x1x1) Cert.ReferenceIdeal.Gen.inpos_S1x1x1_p0_0_0

theorem gref_isMag (M : FVec Ideal Cert.ReferenceIdeal.S4096x8192 .f32) : IsMag (fun i => (M i : EReal)) (gref M) := by
  intro b
  refine (top_le (absf M) _ _ (by decide) _ _ _ _ _ b).trans ⟨fun h => ?_, fun h i => h.2 i⟩
  have h' : ∀ i, mag (M i) ≤ b := h
  exact ⟨(mag_nonneg _).trans (h' (ix2 0 0)), h'⟩

set_option maxRecDepth 65536 in
/-- What the reference writes. -/
theorem ref_apply (j : Cert.ReferenceIdeal.S4096x8192.Idx) :
    (Cert.ReferenceIdeal.Value.G2 (F := Ideal) X W j : EReal)
      = qr (448 : ℝ) (gref (matmul (F := Ideal) (DotDims.plain 4096 4096 8192) none X W (constant (F := Ideal) ⟨2, ![4096, 8192]⟩ .f32 0x00000000#32)))
        (matmul (F := Ideal) (DotDims.plain 4096 4096 8192) none X W (constant (F := Ideal) ⟨2, ![4096, 8192]⟩ .f32 0x00000000#32) j) := by
  rw [qr, ← word_neg448, ← word_448]; rfl

include hx hw

set_option maxRecDepth 65536 in
/-- Every element of the result is the reference's. -/
theorem out_eq (c : Dev nD) (r : Fin 512) (N : Fin 8192) :
    (outv xs ws c (ix2 r N) : EReal) = Cert.ReferenceIdeal.Value.G2 (F := Ideal) X W (ix2 (cell c r) N) := by
  rw [ref_apply]
  generalize hM : matmul (F := Ideal) (DotDims.plain 4096 4096 8192) none X W (constant (F := Ideal) ⟨2, ![4096, 8192]⟩ .f32 0x00000000#32) = M
  have hMa : ∀ R N, (M (ix2 R N) : EReal) = prod X W R N := fun R N => by rw [← hM]; exact mat_apply X W R N
  show (ov xs ws c (chOf N.val) (inCh (ix2 r N)) : EReal) = _
  have ei : inCh (ix2 r N) = ix2 r ⟨N.val % 512, Nat.mod_lt _ (by decide)⟩ := by
    funext a; apply Fin.ext
    match a with
    | ⟨0, _⟩ => rfl
    | ⟨1, _⟩ => rfl
  rw [ei, ov_apply]
  have hrel : ∀ p : (Dev nD × Ch) × S512x512.Idx,
      Cert.Value.Rel (yv xs ws p.1.1 p.1.2 p.2) (M (ix2 (cell p.1.1 (p.2 0)) (col p.1.2 (p.2 1)))) := fun p => by
    have ep : p.2 = ix2 (p.2 0) (p.2 1) := eq_ix2 p.2
    have e := (congrArg (fun i => (yv xs ws p.1.1 p.1.2 i : EReal)) ep).trans (yv_apply xs ws X W hx hw p.1.1 p.1.2 (p.2 0) (p.2 1))
    rw [hMa]
    refine (congrArg (fun a => Cert.Value.Rel a _) e).mpr ?_
    exact Rel.sum _ _ _ fun K => rel_tri _ _
  have hmag : IsMag (fun p : (Dev nD × Ch) × S512x512.Idx => (M (ix2 (cell p.1.1 (p.2 0)) (col p.1.2 (p.2 1))) : EReal)) (gref M) := by
    intro b
    refine (gref_isMag M b).trans (and_congr Iff.rfl ⟨fun h p => h _, fun h i => ?_⟩)
    obtain ⟨c', r', hR⟩ := cell_surj (i 0)
    have e := h ((c', chOf (i 1).val), ix2 r' ⟨(i 1).val % 512, Nat.mod_lt _ (by decide)⟩)
    have e' : ix2 (cell c' r') (col (chOf (i 1).val) ⟨(i 1).val % 512, Nat.mod_lt _ (by decide)⟩) = i := by
      rw [hR]; exact (congrArg (ix2 (i 0)) (col_chOf (i 1))).trans (eq_ix2 i).symm
    rw [← e']; exact e
  have h := quant_eq 448 (by norm_num) (gv_isMag xs ws c) hmag hrel ((c, chOf N.val), ix2 r ⟨N.val % 512, Nat.mod_lt _ (by decide)⟩)
  refine h.trans ?_
  show qr _ _ (M (ix2 (cell c r) (col (chOf N.val) ⟨N.val % 512, Nat.mod_lt _ (by decide)⟩))) = _
  rw [col_chOf]

end Run

/-! ## The claim -/

section Claim

variable (m : (ℓ : Loc nD τ sig) → Buf (Elt Ideal) ℓ) (ρ : Dev nD → PrngReg)

theorem whole_val (a n : ℕ) : 0 * a + 1 * n = n := by omega

/-- The staged copies of the arguments are the arguments. -/
theorem xstg_eq (c : Dev nD) : xstg m ρ c = m ((c : Thread nD τ).loc main_arg0) := by
  funext j
  show m ((c : Thread nD τ).loc main_arg0) _ = _
  congr 1; funext a; apply Fin.ext
  match a with
  | ⟨0, _⟩ => exact whole_val 4096 _
  | ⟨1, _⟩ => exact whole_val 512 _

theorem wstg_eq (c : Dev nD) : wstg m ρ c = m ((c : Thread nD τ).loc main_arg1) := by
  funext j
  show m ((c : Thread nD τ).loc main_arg1) _ = _
  congr 1; funext a; apply Fin.ext
  match a with
  | ⟨0, _⟩ => exact whole_val 512 _
  | ⟨1, _⟩ => exact whole_val 8192 _

set_option maxRecDepth 65536 in
theorem algebraic : Cert.algebraic_KernelIdeal_ReferenceIdeal (hKernelIdeal := Cert.KernelIdeal.Gen.facts) (hReferenceIdeal := Cert.ReferenceIdeal.Gen.facts) := by
  intro m g m' g' _ hm
  refine ⟨_, ?_, (θ_run _ _ _).mono (fun r h => h 0) (Cert.ReferenceIdeal.Value.run (F := Ideal) m' g')⟩
  refine (θ_run _ _ _).mono (fun r h c => ?_) (run_main (F := Ideal) m g)
  obtain ⟨h0, h1, h2⟩ := h.1 c
  refine ⟨h2.trans ?_, h0, h1⟩
  have hx : ∀ c r k, xstg m g c (ix2 r k) = m' (((0 : Dev Cert.ReferenceIdeal.nD).tc : Thread Cert.ReferenceIdeal.nD Cert.ReferenceIdeal.τ).loc Cert.ReferenceIdeal.main_arg0) (ix2 r (cell c k)) := by
    intro c r k
    rw [xstg_eq]
    refine (congrFun (hm c).1 (ix2 r k)).trans (congrArg (m' _) (funext fun a => Fin.ext ?_))
    match a with
    | ⟨0, _⟩ => rfl
    | ⟨1, _⟩ => show c.val * 512 + k.val = 512 * c.val + k.val; omega
  have hw : ∀ c k n, wstg m g c (ix2 k n) = m' (((0 : Dev Cert.ReferenceIdeal.nD).tc : Thread Cert.ReferenceIdeal.nD Cert.ReferenceIdeal.τ).loc Cert.ReferenceIdeal.main_arg1) (ix2 (cell c k) n) := by
    intro c k n
    rw [wstg_eq]
    refine (congrFun (hm c).2 (ix2 k n)).trans (congrArg (m' _) (funext fun a => Fin.ext ?_))
    match a with
    | ⟨0, _⟩ => show c.val * 512 + k.val = 512 * c.val + k.val; omega
    | ⟨1, _⟩ => rfl
  funext i
  obtain ⟨r, n, rfl⟩ : ∃ (r : Fin 512) (n : Fin 8192), i = ix2 r n := ⟨i 0, i 1, eq_ix2 i⟩
  refine (out_eq (xstg m g) (wstg m g) _ _ hx hw c r n).trans (congrArg (Cert.ReferenceIdeal.Value.G2 (F := Ideal) _ _) (funext fun a => Fin.ext ?_))
  match a with
  | ⟨0, _⟩ => show 512 * c.val + r.val = c.val * 512 + r.val; omega
  | ⟨1, _⟩ => rfl

end Claim

end Cert.KernelIdeal.Own

end
-- ==== Proof.lean ====
/- The proof of the certificate's claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Launch
public import proofs.«01_k».proof.Proof.Algebra

@[expose] public section

noncomputable section

namespace Cert.Proof

open Idealize.ShloMosaic Idealize.SL.Sem

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.Own.run_main (F := Ideal) m ρ)

set_option maxRecDepth 65536 in
theorem frame_kernel : Cert.quiescent_Kernel (hKernel := Cert.Kernel.Gen.facts) := by
  intro m ρ _
  have h := (θ_run (Cert.KernelIdeal.defs (F := Bits)) _ _).mono
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)
    (fun _ h => ⟨fun c => ⟨(h.1 c).1, (h.1 c).2.1⟩, h.2⟩) (Cert.KernelIdeal.Own.run_main (F := Bits) m ρ)
  have e : Cert.Kernel.defs (F := Bits) = Cert.KernelIdeal.defs (F := Bits) := by chain_rfl
  have e' : Cert.Kernel.main (F := Bits) = Cert.KernelIdeal.main (F := Bits) := by chain_rfl
  rw [e, e']
  exact h

theorem frame_reference : Cert.quiescent_ReferenceIdeal (hReferenceIdeal := Cert.ReferenceIdeal.Gen.facts) := fun m ρ _ =>
  Cert.ReferenceIdeal.Gen.frame m ρ

theorem claim : Cert.Claim := ⟨Cert.Kernel.Gen.facts, Cert.KernelIdeal.Gen.facts, Cert.ReferenceIdeal.Gen.facts,
  frame_kernel, frame_ideal, frame_reference, trivial, Cert.KernelIdeal.Own.algebraic⟩

end Cert.Proof

end
